-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x4608 : Shape := ⟨3, ![2, 2048, 4608]⟩
abbrev S4608 : Shape := ⟨1, ![4608]⟩
abbrev S4608x8192 : Shape := ⟨2, ![4608, 8192]⟩
abbrev S8192 : Shape := ⟨1, ![8192]⟩
abbrev S2x2048 : Shape := ⟨2, ![2, 2048]⟩
abbrev S64 : Shape := ⟨1, ![64]⟩
abbrev S_ : Shape := ⟨0, ![]⟩
abbrev S128 : Shape := ⟨1, ![128]⟩
abbrev S1x128 : Shape := ⟨2, ![1, 128]⟩
abbrev S4096x4608 : Shape := ⟨2, ![4096, 4608]⟩
abbrev S1x4608 : Shape := ⟨2, ![1, 4608]⟩
abbrev S4096x1 : Shape := ⟨2, ![4096, 1]⟩
abbrev S4096x128 : Shape := ⟨2, ![4096, 128]⟩
abbrev S256x4608 : Shape := ⟨2, ![256, 4608]⟩
abbrev S256x1 : Shape := ⟨2, ![256, 1]⟩
abbrev S256x128 : Shape := ⟨2, ![256, 128]⟩
abbrev S256 : Shape := ⟨1, ![256]⟩
abbrev S1x8192 : Shape := ⟨2, ![1, 8192]⟩
abbrev S4096x32x128 : Shape := ⟨3, ![4096, 32, 128]⟩
abbrev S4096x16x128 : Shape := ⟨3, ![4096, 16, 128]⟩
abbrev S256x32x128 : Shape := ⟨3, ![256, 32, 128]⟩
abbrev S256x16x128 : Shape := ⟨3, ![256, 16, 128]⟩
abbrev S4608x256 : Shape := ⟨2, ![4608, 256]⟩
abbrev S256x256 : Shape := ⟨2, ![256, 256]⟩
abbrev S1x256 : Shape := ⟨2, ![1, 256]⟩
abbrev S256x1x128 : Shape := ⟨3, ![256, 1, 128]⟩
abbrev S256x2x128 : Shape := ⟨3, ![256, 2, 128]⟩
abbrev S2x2048x32x128 : Shape := ⟨4, ![2, 2048, 32, 128]⟩
abbrev S2x2048x16x128 : Shape := ⟨4, ![2, 2048, 16, 128]⟩
abbrev S2x2048x1 : Shape := ⟨3, ![2, 2048, 1]⟩

abbrev nBuf : Space → Nat
  | .hbm => 39
  | .vmem => 30
  | .smem => 0
  | _ => 0

abbrev bufTy : (tb : Table) → Fin (tcTables nBuf tb) → BufTy
  | .hbm, ⟨0, _⟩ => ⟨S2x2048x4608, .bf16⟩
  | .hbm, ⟨1, _⟩ => ⟨S4608, .f32⟩
  | .hbm, ⟨2, _⟩ => ⟨S4608x8192, .fp8e4m3⟩
  | .hbm, ⟨3, _⟩ => ⟨S8192, .f32⟩
  | .hbm, ⟨4, _⟩ => ⟨S2x2048, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S128, .f32⟩
  | .hbm, ⟨22, _⟩ => ⟨S1x128, .f32⟩
  | .hbm, ⟨23, _⟩ => ⟨S4096x4608, .bf16⟩
  | .hbm, ⟨24, _⟩ => ⟨S1x4608, .f32⟩
  | .hbm, ⟨25, _⟩ => ⟨S4096x1, .i32⟩
  | .hbm, ⟨26, _⟩ => ⟨S4096x4608, .fp8e4m3⟩
  | .hbm, ⟨27, _⟩ => ⟨S4096x1, .f32⟩
  | .hbm, ⟨28, _⟩ => ⟨S4096x128, .f32⟩
  | .hbm, ⟨29, _⟩ => ⟨S4096x128, .f32⟩
  | .hbm, ⟨30, _⟩ => ⟨S1x8192, .f32⟩
  | .hbm, ⟨31, _⟩ => ⟨S4096x32x128, .bf16⟩
  | .hbm, ⟨32, _⟩ => ⟨S4096x16x128, .bf16⟩
  | .hbm, ⟨33, _⟩ => ⟨S4096x16x128, .bf16⟩
  | .hbm, ⟨34, _⟩ => ⟨S2x2048x32x128, .bf16⟩
  | .hbm, ⟨35, _⟩ => ⟨S2x2048x16x128, .bf16⟩
  | .hbm, ⟨36, _⟩ => ⟨S2x2048x16x128, .bf16⟩
  | .hbm, ⟨37, _⟩ => ⟨S2x2048x4608, .fp8e4m3⟩
  | .hbm, ⟨38, _⟩ => ⟨S2x2048x1, .f32⟩
  | .local _ .vmem, ⟨0, _⟩ => ⟨S256x4608, .bf16⟩
  | .local _ .vmem, ⟨1, _⟩ => ⟨S256x4608, .bf16⟩
  | .local _ .vmem, ⟨2, _⟩ => ⟨S1x4608, .f32⟩
  | .local _ .vmem, ⟨3, _⟩ => ⟨S256x1, .i32⟩
  | .local _ .vmem, ⟨4, _⟩ => ⟨S256x1, .i32⟩
  | .local _ .vmem, ⟨5, _⟩ => ⟨S1x128, .f32⟩
  | .local _ .vmem, ⟨6, _⟩ => ⟨S256x4608, .fp8e4m3⟩
  | .local _ .vmem, ⟨7, _⟩ => ⟨S256x4608, .fp8e4m3⟩
  | .local _ .vmem, ⟨8, _⟩ => ⟨S256x1, .f32⟩
  | .local _ .vmem, ⟨9, _⟩ => ⟨S256x1, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x4608, .fp8e4m3⟩
  | .local _ .vmem, ⟨15, _⟩ => ⟨S256x4608, .fp8e4m3⟩
  | .local _ .vmem, ⟨16, _⟩ => ⟨S256x1, .f32⟩
  | .local _ .vmem, ⟨17, _⟩ => ⟨S256x1, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S4608x8192, .fp8e4m3⟩
  | .local _ .vmem, ⟨23, _⟩ => ⟨S1x8192, .f32⟩
  | .local _ .vmem, ⟨24, _⟩ => ⟨S256x32x128, .bf16⟩
  | .local _ .vmem, ⟨25, _⟩ => ⟨S256x32x128, .bf16⟩
  | .local _ .vmem, ⟨26, _⟩ => ⟨S256x16x128, .bf16⟩
  | .local _ .vmem, ⟨27, _⟩ => ⟨S256x16x128, .bf16⟩
  | .local _ .vmem, ⟨28, _⟩ => ⟨S256x16x128, .bf16⟩
  | .local _ .vmem, ⟨29, _⟩ => ⟨S256x16x128, .bf16⟩
  | _, _ => ⟨S2x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4608 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x4608 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4608x8192 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x32x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x16x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x16x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S2x2048x4608 : Shape := ⟨3, ![2, 2048, 4608]⟩
abbrev S4608 : Shape := ⟨1, ![4608]⟩
abbrev S4608x8192 : Shape := ⟨2, ![4608, 8192]⟩
abbrev S8192 : Shape := ⟨1, ![8192]⟩
abbrev S2x2048 : Shape := ⟨2, ![2, 2048]⟩
abbrev S_ : Shape := ⟨0, ![]⟩
abbrev S2x2048x1 : Shape := ⟨3, ![2, 2048, 1]⟩
abbrev S1x1x4608 : Shape := ⟨3, ![1, 1, 4608]⟩
abbrev S254 : Shape := ⟨1, ![254]⟩
abbrev S1x1x254 : Shape := ⟨3, ![1, 1, 254]⟩
abbrev S2x2048x254 : Shape := ⟨3, ![2, 2048, 254]⟩
abbrev S4096x4608 : Shape := ⟨2, ![4096, 4608]⟩
abbrev S4096x8192 : Shape := ⟨2, ![4096, 8192]⟩
abbrev S2x2048x8192 : Shape := ⟨3, ![2, 2048, 8192]⟩
abbrev S1x1x8192 : Shape := ⟨3, ![1, 1, 8192]⟩
abbrev S2x2048x4096 : Shape := ⟨3, ![2, 2048, 4096]⟩
abbrev S2x2048x32x128 : Shape := ⟨4, ![2, 2048, 32, 128]⟩
abbrev S2x2048x2048 : Shape := ⟨3, ![2, 2048, 2048]⟩
abbrev S2x2048x16x128 : Shape := ⟨4, ![2, 2048, 16, 128]⟩
abbrev S64 : Shape := ⟨1, ![64]⟩
abbrev S1x1x64 : Shape := ⟨3, ![1, 1, 64]⟩
abbrev S2x2048x64 : Shape := ⟨3, ![2, 2048, 64]⟩
abbrev S2x2048x1x64 : Shape := ⟨4, ![2, 2048, 1, 64]⟩
abbrev S2x2048x32x64 : Shape := ⟨4, ![2, 2048, 32, 64]⟩
abbrev S2x2048x16x64 : Shape := ⟨4, ![2, 2048, 16, 64]⟩

abbrev nBuf : Space → Nat
  | .hbm => 183
  | .vmem => 4
  | .smem => 0
  | _ => 0

abbrev hbmTy0_0 (i : Nat) : BufTy := match i % 128 with
  | 0 => ⟨S2x2048x4608, .bf16⟩
  | 1 => ⟨S4608, .f32⟩
  | 2 => ⟨S4608x8192, .fp8e4m3⟩
  | 3 => ⟨S8192, .f32⟩
  | 4 => ⟨S2x2048, .i32⟩
  | 5 => ⟨S2x2048x4608, .f32⟩
  | 6 => ⟨S2x2048x4608, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x1, .f32⟩
  | 17 => ⟨S2x2048x4608, .f32⟩
  | 18 => ⟨S2x2048x4608, .f32⟩
  | 19 => ⟨S1x1x4608, .f32⟩
  | 20 => ⟨S2x2048x4608, .f32⟩
  | 21 => ⟨S2x2048x4608, .f32⟩
  | 22 => ⟨S2x2048x4608, .f32⟩
  | 23 => ⟨S_, .f32⟩
  | 24 => ⟨S2x2048, .f32⟩
  | 25 => ⟨S2x2048x1, .f32⟩
  | 26 => ⟨S_, .f32⟩
  | 27 => ⟨S2x2048x1, .f32⟩
  | 28 => ⟨S2x2048x1, .i1⟩
  | 29 => ⟨S_, .f32⟩
  | 30 => ⟨S2x2048x1, .f32⟩
  | 31 => ⟨S2x2048x1, .f32⟩
  | 32 => ⟨S254, .f32⟩
  | 33 => ⟨S_, .f32⟩
  | 34 => ⟨S254, .f32⟩
  | 35 => ⟨S254, .f32⟩
  | 36 => ⟨S_, .f32⟩
  | 37 => ⟨S254, .f32⟩
  | 38 => ⟨S254, .f32⟩
  | 39 => ⟨S1x1x254, .f32⟩
  | 40 => ⟨S2x2048x254, .f32⟩
  | 41 => ⟨S2x2048x254, .f32⟩
  | 42 => ⟨S2x2048x254, .i1⟩
  | 43 => ⟨S2x2048x254, .i32⟩
  | 44 => ⟨S_, .i32⟩
  | 45 => ⟨S2x2048, .i32⟩
  | 46 => ⟨S2x2048x1, .i32⟩
  | 47 => ⟨S_, .i32⟩
  | 48 => ⟨S2x2048x1, .i32⟩
  | 49 => ⟨S2x2048x1, .i1⟩
  | 50 => ⟨S_, .f32⟩
  | 51 => ⟨S2x2048x1, .f32⟩
  | 52 => ⟨S2x2048x1, .i1⟩
  | 53 => ⟨S2x2048x1, .i1⟩
  | 54 => ⟨S_, .i32⟩
  | 55 => ⟨S2x2048x1, .i32⟩
  | 56 => ⟨S2x2048x1, .i32⟩
  | 57 => ⟨S_, .i32⟩
  | 58 => ⟨S_, .i32⟩
  | 59 => ⟨S2x2048x1, .i32⟩
  | 60 => ⟨S2x2048x1, .i32⟩
  | 61 => ⟨S_, .i32⟩
  | 62 => ⟨S_, .i32⟩
  | 63 => ⟨S2x2048x1, .i32⟩
  | 64 => ⟨S2x2048x1, .i32⟩
  | 65 => ⟨S_, .i32⟩
  | 66 => ⟨S2x2048x1, .i32⟩
  | 67 => ⟨S2x2048x1, .i1⟩
  | 68 => ⟨S_, .i32⟩
  | 69 => ⟨S2x2048x1, .i32⟩
  | 70 => ⟨S2x2048x1, .i1⟩
  | 71 => ⟨S2x2048x1, .f32⟩
  | 72 => ⟨S_, .f32⟩
  | 73 => ⟨S2x2048x1, .f32⟩
  | 74 => ⟨S2x2048x1, .f32⟩
  | 75 => ⟨S_, .f32⟩
  | 76 => ⟨S_, .f32⟩
  | 77 => ⟨S2x2048x1, .f32⟩
  | 78 => ⟨S2x2048x1, .f32⟩
  | 79 => ⟨S_, .f32⟩
  | 80 => ⟨S_, .f32⟩
  | 81 => ⟨S2x2048x1, .f32⟩
  | 82 => ⟨S2x2048x1, .f32⟩
  | 83 => ⟨S2x2048x1, .i32⟩
  | 84 => ⟨S_, .i32⟩
  | 85 => ⟨S2x2048x1, .i32⟩
  | 86 => ⟨S2x2048x1, .i1⟩
  | 87 => ⟨S_, .i32⟩
  | 88 => ⟨S2x2048x1, .i32⟩
  | 89 => ⟨S2x2048x1, .i1⟩
  | 90 => ⟨S2x2048x1, .f32⟩
  | 91 => ⟨S_, .f32⟩
  | 92 => ⟨S2x2048x1, .f32⟩
  | 93 => ⟨S2x2048x1, .f32⟩
  | 94 => ⟨S_, .f32⟩
  | 95 => ⟨S_, .f32⟩
  | 96 => ⟨S2x2048x1, .f32⟩
  | 97 => ⟨S2x2048x1, .f32⟩
  | 98 => ⟨S_, .f32⟩
  | 99 => ⟨S_, .f32⟩
  | 100 => ⟨S2x2048x1, .f32⟩
  | 101 => ⟨S2x2048x1, .f32⟩
  | 102 => ⟨S2x2048x4608, .f32⟩
  | 103 => ⟨S2x2048x4608, .f32⟩
  | 104 => ⟨S_, .f32⟩
  | 105 => ⟨S_, .f32⟩
  | 106 => ⟨S_, .f32⟩
  | 107 => ⟨S2x2048x4608, .f32⟩
  | 108 => ⟨S2x2048x4608, .f32⟩
  | 109 => ⟨S_, .f32⟩
  | 110 => ⟨S2x2048x4608, .f32⟩
  | 111 => ⟨S2x2048x4608, .f32⟩
  | 112 => ⟨S4096x4608, .f32⟩
  | 113 => ⟨S4096x4608, .fp8e4m3⟩
  | 114 => ⟨S4096x8192, .f32⟩
  | 115 => ⟨S2x2048x8192, .f32⟩
  | 116 => ⟨S2x2048x8192, .f32⟩
  | 117 => ⟨S2x2048x8192, .f32⟩
  | 118 => ⟨S1x1x8192, .f32⟩
  | 119 => ⟨S2x2048x8192, .f32⟩
  | 120 => ⟨S2x2048x8192, .f32⟩
  | 121 => ⟨S2x2048x4096, .f32⟩
  | 122 => ⟨S2x2048x32x128, .f32⟩
  | 123 => ⟨S2x2048x2048, .f32⟩
  | 124 => ⟨S2x2048x16x128, .f32⟩
  | 125 => ⟨S2x2048x2048, .f32⟩
  | 126 => ⟨S2x2048x16x128, .f32⟩
  | 127 => ⟨S64, .f32⟩
  | _ => ⟨S2x2048x4608, .bf16⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S2x2048, .f32⟩
  | 16 => ⟨S2x2048x1, .f32⟩
  | 17 => ⟨S1x1x64, .f32⟩
  | 18 => ⟨S2x2048x64, .f32⟩
  | 19 => ⟨S2x2048x64, .f32⟩
  | 20 => ⟨S2x2048x64, .f32⟩
  | 21 => ⟨S2x2048x64, .f32⟩
  | 22 => ⟨S2x2048x1x64, .f32⟩
  | 23 => ⟨S2x2048x64, .f32⟩
  | 24 => ⟨S2x2048x1x64, .f32⟩
  | 25 => ⟨S2x2048x32x64, .f32⟩
  | 26 => ⟨S2x2048x32x64, .f32⟩
  | 27 => ⟨S2x2048x32x64, .f32⟩
  | 28 => ⟨S2x2048x32x64, .f32⟩
  | 29 => ⟨S2x2048x32x64, .f32⟩
  | 30 => ⟨S2x2048x32x64, .f32⟩
  | 31 => ⟨S2x2048x32x64, .f32⟩
  | 32 => ⟨S2x2048x32x64, .f32⟩
  | 33 => ⟨S2x2048x32x64, .f32⟩
  | 34 => ⟨S2x2048x32x64, .f32⟩
  | 35 => ⟨S2x2048x32x64, .f32⟩
  | 36 => ⟨S2x2048x32x64, .f32⟩
  | 37 => ⟨S2x2048x32x128, .f32⟩
  | 38 => ⟨S2x2048x32x128, .bf16⟩
  | 39 => ⟨S2x2048x16x64, .f32⟩
  | 40 => ⟨S2x2048x16x64, .f32⟩
  | 41 => ⟨S2x2048x16x64, .f32⟩
  | 42 => ⟨S2x2048x16x64, .f32⟩
  | 43 => ⟨S2x2048x16x64, .f32⟩
  | 44 => ⟨S2x2048x16x64, .f32⟩
  | 45 => ⟨S2x2048x16x64, .f32⟩
  | 46 => ⟨S2x2048x16x64, .f32⟩
  | 47 => ⟨S2x2048x16x64, .f32⟩
  | 48 => ⟨S2x2048x16x64, .f32⟩
  | 49 => ⟨S2x2048x16x64, .f32⟩
  | 50 => ⟨S2x2048x16x64, .f32⟩
  | 51 => ⟨S2x2048x16x128, .f32⟩
  | 52 => ⟨S2x2048x16x128, .bf16⟩
  | 53 => ⟨S2x2048x16x128, .bf16⟩
  | 54 => ⟨S2x2048x4608, .fp8e4m3⟩
  | _ => ⟨S2x2048x4608, .bf16⟩

abbrev hbmTy (i : Nat) : BufTy := match i / 128 with
  | 0 => hbmTy0_0 i
  | 1 => hbmTy0_1 i
  | _ => ⟨S2x2048x4608, .bf16⟩

abbrev bufTy : (tb : Table) → Fin (tcTables nBuf tb) → BufTy
  | .hbm, ⟨i, _⟩ => hbmTy i
  | .local _ .vmem, ⟨0, _⟩ => ⟨S4096x4608, .f32⟩
  | .local _ .vmem, ⟨1, _⟩ => ⟨S4608x8192, .fp8e4m3⟩
  | .local _ .vmem, ⟨2, _⟩ => ⟨S4096x4608, .fp8e4m3⟩
  | .local _ .vmem, ⟨3, _⟩ => ⟨S4096x8192, .f32⟩
  | _, _ => ⟨S2x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_call0_v0 : Ref sig .tc := ⟨.hbm, 58, rfl⟩
abbrev main_call0_v1 : Ref sig .tc := ⟨.hbm, 59, rfl⟩
abbrev main_v40 : Ref sig .tc := ⟨.hbm, 60, rfl⟩
abbrev main_c_11 : Ref sig .tc := ⟨.hbm, 61, rfl⟩
abbrev main_call1_v0 : Ref sig .tc := ⟨.hbm, 62, rfl⟩
abbrev main_call1_v1 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_call2_v0 : Ref sig .tc := ⟨.hbm, 76, rfl⟩
abbrev main_call2_v1 : Ref sig .tc := ⟨.hbm, 77, rfl⟩
abbrev main_v49 : Ref sig .tc := ⟨.hbm, 78, rfl⟩
abbrev main_cst_16 : Ref sig .tc := ⟨.hbm, 79, rfl⟩
abbrev main_call3_v0 : Ref sig .tc := ⟨.hbm, 80, rfl⟩
abbrev main_call3_v1 : Ref sig .tc := ⟨.hbm, 81, rfl⟩
abbrev main_v50 : Ref sig .tc := ⟨.hbm, 82, rfl⟩
abbrev main_v51 : Ref sig .tc := ⟨.hbm, 83, rfl⟩
abbrev main_c_17 : Ref sig .tc := ⟨.hbm, 84, rfl⟩
abbrev main_v52 : Ref sig .tc := ⟨.hbm, 85, rfl⟩
abbrev main_v53 : Ref sig .tc := ⟨.hbm, 86, rfl⟩
abbrev main_c_18 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_19 : Ref sig .tc := ⟨.hbm, 91, rfl⟩
abbrev main_v57 : Ref sig .tc := ⟨.hbm, 92, rfl⟩
abbrev main_v58 : Ref sig .tc := ⟨.hbm, 93, rfl⟩
abbrev main_cst_20 : Ref sig .tc := ⟨.hbm, 94, rfl⟩
abbrev main_call4_v0 : Ref sig .tc := ⟨.hbm, 95, rfl⟩
abbrev main_call4_v1 : Ref sig .tc := ⟨.hbm, 96, rfl⟩
abbrev main_v59 : Ref sig .tc := ⟨.hbm, 97, rfl⟩
abbrev main_cst_21 : Ref sig .tc := ⟨.hbm, 98, rfl⟩
abbrev main_call5_v0 : Ref sig .tc := ⟨.hbm, 99, rfl⟩
abbrev main_call5_v1 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_22 : Ref sig .tc := ⟨.hbm, 104, rfl⟩
abbrev main_cst_23 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_v63 : Ref sig .tc := ⟨.hbm, 111, rfl⟩
abbrev main_v64 : Ref sig .tc := ⟨.hbm, 112, rfl⟩
abbrev main_v65_0 : Ref sig .tc := ⟨.hbm, 113, rfl⟩
abbrev main_v65_1 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_24 : Ref sig .tc := ⟨.hbm, 128, rfl⟩
abbrev main_v79 : Ref sig .tc := ⟨.hbm, 129, rfl⟩
abbrev main_v80 : Ref sig .tc := ⟨.hbm, 130, rfl⟩
abbrev main_cst_25 : Ref sig .tc := ⟨.hbm, 131, rfl⟩
abbrev main_v81 : Ref sig .tc := ⟨.hbm, 132, rfl⟩
abbrev main_v82 : Ref sig .tc := ⟨.hbm, 133, rfl⟩
abbrev main_cst_26 : Ref sig .tc := ⟨.hbm, 134, rfl⟩
abbrev main_v83 : Ref sig .tc := ⟨.hbm, 135, rfl⟩
abbrev main_v84 : Ref sig .tc := ⟨.hbm, 136, rfl⟩
abbrev main_cst_27 : Ref sig .tc := ⟨.hbm, 137, rfl⟩
abbrev main_v85 : Ref sig .tc := ⟨.hbm, 138, rfl⟩
abbrev main_v86 : Ref sig .tc := ⟨.hbm, 139, rfl⟩
abbrev main_cst_28 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Region0.lean ====
/- The first call of the kernel (RMS norm, quantisation and the rotary tables): what its body leaves in the
   four output windows from the blocks of its inputs, and the pipeline's proof data at any contents of memory. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))
/-! # REGION 0 of @main: custom_call 0, `cc0_rmsnorm_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4608 := Rect.unit (s := S256x4608) ![0, 0] S256x4608.size inb_S256x4608_S256x4608_0_0
abbrev r0_1 : Rect S1x4608 := Rect.unit (s := S1x4608) ![0, 0] S1x4608.size inb_S1x4608_S1x4608_0_0
abbrev r0_2 : Rect S256x1 := Rect.unit (s := S256x1) ![0, 0] S256x1.size inb_S256x1_S256x1_0_0
abbrev r0_3 : Rect S1x128 := Rect.unit (s := S1x128) ![0, 0] S1x128.size inb_S1x128_S1x128_0_0
abbrev r0_4 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k0_pay16` …, after `k0_pay15`), so that
    `out0_W` and the values after it name it instead of spelling it out (`unfold_out out0_W` opens a canon
    with them, `unfold_payloads` opens them with the payloads); the comment after each is the printed function's
    name for the value (a count appended where that name is bound again). -/

def k0_pay16 (x0 : Vec F S256x4608 .bf16) (x1 : Vec F S1x4608 .f32) (x2 : Vec F S256x1 .i32) (x3 : Vec F S1x128 .f32) : FVec F S256x1 .f32 :=
  k0_pay5 (View.ld x0 r0_0) (View.ld x1 r0_1) -- `v19`
def k0_pay17 (x0 : Vec F S256x4608 .bf16) (x1 : Vec F S1x4608 .f32) (x2 : Vec F S256x1 .i32) (x3 : Vec F S1x128 .f32) : IVec S256x1 32 :=
  k0_pay10 (k0_pay6 (View.ld x0 r0_0) (View.ld x1 r0_1)) (k0_pay7 (View.ld x0 r0_0) (View.ld x1 r0_1)) (k0_pay8 (View.ld x0 r0_0) (View.ld x1 r0_1)) (k0_pay9 (View.ld x0 r0_0) (View.ld x1 r0_1)) -- `v87`
def k0_pay18 (x0 : Vec F S256x4608 .bf16) (x1 : Vec F S1x4608 .f32) (x2 : Vec F S256x1 .i32) (x3 : Vec F S1x128 .f32) : FVec F S256x1 .f32 :=
  k0_pay14 (View.ld x2 r0_2) -- `v123`
def k0_pay19 (x0 : Vec F S256x4608 .bf16) (x1 : Vec F S1x4608 .f32) (x2 : Vec F S256x1 .i32) (x3 : Vec F S1x128 .f32) : FVec F S1x128 .f32 :=
  k0_pay15 (View.ld x3 r0_3) -- `v125`

/-- Window 4's staging buffer after the body, from the input windows' blocks: its 1 store as pieces, LAST
    FIRST (Lib/Pipeline/FrameBody.lean `View.canon`; the payloads are the skeleton's and the values stated above). -/
def out0_4 (x0 : Vec F S256x4608 .bf16) (x1 : Vec F S1x4608 .f32) (x2 : Vec F S256x1 .i32) (x3 : Vec F S1x128 .f32) : Vec F S256x4608 .fp8e4m3 :=
  View.canon [⟨r0_0, k0_pay13 (k0_pay4 (View.ld x0 r0_0) (View.ld x1 r0_1)) (k0_pay16 x0 x1 x2 x3) (k0_pay17 x0 x1 x2 x3) (Scalar.ofBits .f32 0x00000000#32)⟩]

/-- Its stores tile the buffer (checked by evaluation), so they cover it. -/
theorem cover0_4 (p0 : Vec F S256x4608 .fp8e4m3) (y : S256x4608.Idx) :
    ∃ pc ∈ ([⟨r0_0, p0⟩] : List (View.Piece (Elt F) S256x4608 .fp8e4m3)), y ∈ pc.1.set :=
  View.cover_of_tiled [⟨r0_0, p0⟩] S256x4608.size (by rfl) y

/-- Window 5's staging buffer after the body, from the input windows' blocks: its 1 store as pieces, LAST
    FIRST (Lib/Pipeline/FrameBody.lean `View.canon`; the payloads are the skeleton's and the values stated above). -/
def out0_5 (x0 : Vec F S256x4608 .bf16) (x1 : Vec F S1x4608 .f32) (x2 : Vec F S256x1 .i32) (x3 : Vec F S1x128 .f32) : Vec F S256x1 .f32 :=
  View.canon [⟨r0_2, k0_pay12 (k0_pay16 x0 x1 x2 x3) (k0_pay17 x0 x1 x2 x3) (Scalar.ofBits .f32 0x00000000#32)⟩]

/-- Its stores tile the buffer (checked by evaluation), so they cover it. -/
theorem cover0_5 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-- Window 6's staging buffer after the body, from the input windows' blocks: its 1 store as pieces, LAST
    FIRST (Lib/Pipeline/FrameBody.lean `View.canon`; the payloads are the skeleton's and the values stated above). -/
def out0_6 (x0 : Vec F S256x4608 .bf16) (x1 : Vec F S1x4608 .f32) (x2 : Vec F S256x1 .i32) (x3 : Vec F S1x128 .f32) : Vec F S256x128 .f32 :=
  View.canon [⟨r0_4, k0_pay2 (k0_pay18 x0 x1 x2 x3) (k0_pay19 x0 x1 x2 x3)⟩]

/-- Its stores tile the buffer (checked by evaluation), so they cover it. -/
theorem cover0_6 (p0 : Vec F S256x128 .f32) (y : S256x128.Idx) :
    ∃ pc ∈ ([⟨r0_4, p0⟩] : List (View.Piece (Elt F) S256x128 .f32)), y ∈ pc.1.set :=
  View.cover_of_tiled [⟨r0_4, p0⟩] S256x128.size (by rfl) y

/-- Window 7's staging buffer after the body, from the input windows' blocks: its 1 store as pieces, LAST
    FIRST (Lib/Pipeline/FrameBody.lean `View.canon`; the payloads are the skeleton's and the values stated above). -/
def out0_7 (x0 : Vec F S256x4608 .bf16) (x1 : Vec F S1x4608 .f32) (x2 : Vec F S256x1 .i32) (x3 : Vec F S1x128 .f32) : Vec F S256x128 .f32 :=
  View.canon [⟨r0_4, k0_pay3 (k0_pay18 x0 x1 x2 x3) (k0_pay19 x0 x1 x2 x3)⟩]

/-- Its stores tile the buffer (checked by evaluation), so they cover it. -/
theorem cover0_7 (p0 : Vec F S256x128 .f32) (y : S256x128.Idx) :
    ∃ pc ∈ ([⟨r0_4, p0⟩] : List (View.Piece (Elt F) S256x128 .f32)), y ∈ pc.1.set :=
  View.cover_of_tiled [⟨r0_4, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x4608 .bf16) (harg1 : arg1.IsWhole) (arg2 : Memref sig .tc .vmem S1x4608 .f32) (harg2 : arg2.IsWhole) (arg3 : Memref sig .tc .vmem S256x1 .i32) (harg3 : arg3.IsWhole) (arg4 : Memref sig .tc .vmem S1x128 .f32) (harg4 : arg4.IsWhole) (arg5 : Memref sig .tc .vmem S256x4608 .fp8e4m3) (harg5 : arg5.IsWhole) (arg6 : Memref sig .tc .vmem S256x1 .f32) (harg6 : arg6.IsWhole) (arg7 : Memref sig .tc .vmem S256x128 .f32) (harg7 : arg7.IsWhole) (arg8 : Memref sig .tc .vmem S256x128 .f32) (harg8 : arg8.IsWhole)
    (x0 : Vec F S256x4608 .bf16) (x1 : Vec F S1x4608 .f32) (x2 : Vec F S256x1 .i32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3) ∗ owns (c : Thread nD τ) arg8 fullShare (out0_7 x0 x1 x2 x3)) -∗ K ⟨⟩))
      ⊢ wp frame (wpE (defs₀ (F := F)) Variants.none c none) E (cc0_rmsnorm_quant i arg1 harg1 arg2 harg2 arg3 harg3 arg4 harg4 arg5 harg5 arg6 harg6 arg7 harg7 arg8 harg8) K := by
  simp only [cc0_rmsnorm_quant_eq_skeleton]; unfold cc0_rmsnorm_quant_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  iexists _; isplitr
  swap; · iexact H7
  ipureintro
  refine (View.read_writes_eq_canon _ _ _ (cover0_7 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_fp8_qkv_rope` (pipeline 1), at the entry contents `V` -/

end Regions

end Cert.KernelIdeal.Own

end
-- ==== Proof.Pairs.lean ====
/- A buffer of rows filled two rows at a time. A 16-bit row is half of a word, so a row is stored by reading the pair
   of rows that shares the words, putting the new row into the pair, and writing the pair back. Here: after both rows
   of the first `n` pairs have been stored in this way, each of those rows reads as it was stored, whatever the buffer
   held before. -/
module

public import Idealize.ShloMosaic.Lib.Writes
public import Idealize.ShloMosaic.Lib.Pipeline.FrameBody

@[expose] public section

namespace Cert.Pairs

open Idealize.ShloMosaic

/-- `H` rows of 128 for each of 256 tokens; a pair of rows; one row. -/
abbrev Rows (H : ℕ) : Shape := ⟨3, ![256, H, 128]⟩
abbrev Pair : Shape := ⟨3, ![256, 2, 128]⟩
abbrev Row : Shape := ⟨3, ![256, 1, 128]⟩

/-- The place of row `r` of a token at lane `l` inside a single row's vector. -/
abbrev inRow {H : ℕ} (y : (Rows H).Idx) : Row.Idx := fun a => match a with
  | ⟨0, _⟩ => ⟨(y 0).val, (y 0).isLt⟩
  | ⟨1, _⟩ => ⟨0, Nat.one_pos⟩
  | ⟨2, _⟩ => ⟨(y 2).val, (y 2).isLt⟩

/-- The rows put together from the even ones `lo` and the odd ones `hi`. -/
def rowsOf {α : Type} {M H : ℕ} (hH : H = 2 * M) (lo hi : Fin M → Row.Idx → α) (y : (Rows H).Idx) : α :=
  if (y 1).val % 2 = 0 then lo ⟨(y 1).val / 2, by have h : (y 1).val < H := (y 1).isLt; omega⟩ (inRow y)
  else hi ⟨(y 1).val / 2, by have h : (y 1).val < H := (y 1).isLt; omega⟩ (inRow y)

variable {Val : EltTy → Type} {sig : RefSig} {κ : Kind} {sp : Space} {e : EltTy} {M H : ℕ}

/-- After the writes `L` the first `n` pairs of rows read as `rowsOf` says. -/
def Good (v : View sig κ sp (Rows H) e) (f : v.ty.Contents Val) (hH : H = 2 * M) (lo hi : Fin M → Row.Idx → Val e)
    (L : List (View.Piece Val (Rows H) e)) (n : ℕ) : Prop :=
  ∀ y : (Rows H).Idx, (y 1).val < 2 * n → v.read Val (v.writes Val f L) y = rowsOf hH lo hi y

theorem good_zero (v : View sig κ sp (Rows H) e) (f : v.ty.Contents Val) (hH : H = 2 * M) (lo hi : Fin M → Row.Idx → Val e)
    (L : List (View.Piece Val (Rows H) e)) : Good v f hH lo hi L 0 := fun _ h => absurd h (by omega)

/-- The second row of a pair, read where the new row was put. -/
theorem updateSlice_one {α : Type} (x : Pair.Idx → α) (u : Row.Idx → α) (h : Pair.Slices ![0, 1, 0] Row) (j : Pair.Idx)
    (hj : (j 1).val = 1) : updateSlice x u ![0, 1, 0] h j = u (inRow j) := by
  have h0 : (j 0).val < 256 := (j 0).isLt
  have h2 : (j 2).val < 128 := (j 2).isLt
  unfold updateSlice
  rw [dif_pos]
  · congr 1; funext a
    match a with
    | ⟨0, _⟩ => rfl
    | ⟨1, _⟩ => exact Fin.ext (show (j 1).val - 1 = 0 by omega)
    | ⟨2, _⟩ => rfl
  · intro a
    match a with
    | ⟨0, _⟩ => exact ⟨Nat.zero_le _, show (j 0).val < 0 + 256 by omega⟩
    | ⟨1, _⟩ => exact ⟨show 1 ≤ (j 1).val by omega, show (j 1).val < 1 + 1 by omega⟩
    | ⟨2, _⟩ => exact ⟨Nat.zero_le _, show (j 2).val < 0 + 128 by omega⟩

/-- The first row of a pair, read after the second was put. -/
theorem updateSlice_one_zero {α : Type} (x : Pair.Idx → α) (u : Row.Idx → α) (h : Pair.Slices ![0, 1, 0] Row) (j : Pair.Idx)
    (hj : (j 1).val = 0) : updateSlice x u ![0, 1, 0] h j = x j := by
  unfold updateSlice
  rw [dif_neg]
  intro hc
  have h1 : 1 ≤ (j 1).val := (hc 1).1
  omega

/-- The first row of a pair, read where the new row was put. -/
theorem updateSlice_zero {α : Type} (x : Pair.Idx → α) (u : Row.Idx → α) (h : Pair.Slices ![0, 0, 0] Row) (j : Pair.Idx)
    (hj : (j 1).val = 0) : updateSlice x u ![0, 0, 0] h j = u (inRow j) := by
  have h0 : (j 0).val < 256 := (j 0).isLt
  have h2 : (j 2).val < 128 := (j 2).isLt
  unfold updateSlice
  rw [dif_pos]
  · congr 1; funext a
    match a with
    | ⟨0, _⟩ => rfl
    | ⟨1, _⟩ => exact Fin.ext (show (j 1).val - 0 = 0 by omega)
    | ⟨2, _⟩ => rfl
  · intro a
    match a with
    | ⟨0, _⟩ => exact ⟨Nat.zero_le _, show (j 0).val < 0 + 256 by omega⟩
    | ⟨1, _⟩ => exact ⟨Nat.zero_le _, show (j 1).val < 0 + 1 by omega⟩
    | ⟨2, _⟩ => exact ⟨Nat.zero_le _, show (j 2).val < 0 + 128 by omega⟩

/-- Storing the two rows of pair `n` after the first `n` pairs leaves the first `n + 1` pairs right: the pair written
    last holds the second row and what the pair read back held, which is the first row. -/
theorem good_step [∀ e, Nonempty (Val e)] (v : View sig κ sp (Rows H) e) (f : v.ty.Contents Val) (hH : H = 2 * M) (lo hi : Fin M → Row.Idx → Val e)
    (n : ℕ) (hn : n < M) (inb : ∀ a, (![0, 2 * n, 0] : Fin 3 → ℕ) a + Pair.size a ≤ (Rows H).size a)
    (L : List (View.Piece Val (Rows H) e)) (p0 p1 : Row.Idx → Val e) (old0 : Pair.Idx → Val e)
    (sl0 : Pair.Slices ![0, 0, 0] Row) (sl1 : Pair.Slices ![0, 1, 0] Row)
    (h0 : p0 = lo ⟨n, hn⟩) (h1 : p1 = hi ⟨n, hn⟩) (hL : Good v f hH lo hi L n) :
    Good v f hH lo hi
      (⟨Rect.unit (s := Rows H) ![0, 2 * n, 0] Pair.size inb,
          updateSlice (s := Pair) (u := Row)
            (v.readCov (⟨Rect.unit (s := Rows H) ![0, 2 * n, 0] Pair.size inb,
                updateSlice (s := Pair) (u := Row) old0 p0 ![0, 0, 0] sl0⟩ :: L)
              (Rect.unit (s := Rows H) ![0, 2 * n, 0] Pair.size inb).toLoadRect) p1 ![0, 1, 0] sl1⟩ ::
        ⟨Rect.unit (s := Rows H) ![0, 2 * n, 0] Pair.size inb,
          updateSlice (s := Pair) (u := Row) old0 p0 ![0, 0, 0] sl0⟩ :: L) (n + 1) := by
  intro y hy
  by_cases hlt : (y 1).val < 2 * n
  · rw [View.read_writes_cons_miss_of_axis v f _ _ y 1 (2 * n) 2 rfl rfl rfl (Or.inl hlt),
      View.read_writes_cons_miss_of_axis v f _ _ y 1 (2 * n) 2 rfl rfl rfl (Or.inl hlt)]
    exact hL y hlt
  · have hb : (y 1).val - 2 * n < 2 := by omega
    let x : Pair.Idx := fun a => match a with
      | ⟨0, _⟩ => ⟨(y 0).val, (y 0).isLt⟩
      | ⟨1, _⟩ => ⟨(y 1).val - 2 * n, hb⟩
      | ⟨2, _⟩ => ⟨(y 2).val, (y 2).isLt⟩
    have hx : ∀ a, (y a).val = (Rect.unit (s := Rows H) ![0, 2 * n, 0] Pair.size inb).off a
        + (Rect.unit (s := Rows H) ![0, 2 * n, 0] Pair.size inb).stride a * (x a).val := by
      intro a
      match a with
      | ⟨0, _⟩ => show (y 0).val = 0 + 1 * (y 0).val; omega
      | ⟨1, _⟩ => show (y 1).val = 2 * n + 1 * ((y 1).val - 2 * n); omega
      | ⟨2, _⟩ => show (y 2).val = 0 + 1 * (y 2).val; omega
    rw [View.read_writes_cons_hit_of_coords v f _ _ _ x y hx]
    have hin : inRow (H := 2) x = inRow y := by
      funext a
      match a with
      | ⟨0, _⟩ => rfl
      | ⟨1, _⟩ => rfl
      | ⟨2, _⟩ => rfl
    by_cases hodd : (y 1).val = 2 * n
    · have hx1 : (x 1).val = 0 := show (y 1).val - 2 * n = 0 by omega
      rw [updateSlice_one_zero _ _ _ x hx1]
      show v.read Val (v.writes Val v.junk (⟨Rect.unit (s := Rows H) ![0, 2 * n, 0] Pair.size inb, _⟩ :: L)) ((Rect.unit (s := Rows H) ![0, 2 * n, 0] Pair.size inb).emb x) = _
      rw [View.read_writes_cons_emb, updateSlice_zero _ _ _ x hx1, hin, h0]
      unfold rowsOf
      rw [if_pos (by omega)]
      exact congrArg (fun k => lo k (inRow y)) (Fin.ext (show n = (y 1).val / 2 by omega))
    · have hx1 : (x 1).val = 1 := show (y 1).val - 2 * n = 1 by omega
      rw [updateSlice_one _ _ _ x hx1, hin, h1]
      unfold rowsOf
      rw [if_neg (by omega)]
      exact congrArg (fun k => hi k (inRow y)) (Fin.ext (show n = (y 1).val / 2 by omega))

/-- All pairs stored: the buffer reads as `rowsOf`. -/
theorem good_all (v : View sig κ sp (Rows H) e) (f : v.ty.Contents Val) (hH : H = 2 * M) (lo hi : Fin M → Row.Idx → Val e)
    (L : List (View.Piece Val (Rows H) e)) (h : Good v f hH lo hi L M) :
    v.read Val (v.writes Val f L) = rowsOf hH lo hi :=
  funext fun y => h y (by have h : (y 1).val < H := (y 1).isLt; omega)

end Cert.Pairs

end
-- ==== Proof.Region1.lean ====
/- The second call of the kernel (the projection and the rotation): what its body leaves in the three output
   windows from the blocks of its inputs, and the pipeline's proof data at any contents of memory. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Pairs

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window's buffer -/

/-- The 256 columns of the weights, and of their scales, that tile `k` reads. -/
abbrev wRect (k : Fin 32) : Rect S4608x8192 := Rect.unit (s := S4608x8192) ![0, 256 * k.val] S4608x256.size (fun a => match a with
  | ⟨0, _⟩ => Nat.le_of_eq (Nat.zero_add 4608)
  | ⟨1, _⟩ => show 256 * k.val + 256 ≤ 8192 by omega)
abbrev sRect (k : Fin 32) : Rect S1x8192 := Rect.unit (s := S1x8192) ![0, 256 * k.val] S1x256.size (fun a => match a with
  | ⟨0, _⟩ => Nat.le_of_eq (Nat.zero_add 1)
  | ⟨1, _⟩ => show 256 * k.val + 256 ≤ 8192 by omega)
abbrev r1_0 : Rect S256x4608 := Rect.unit (s := S256x4608) ![0, 0] S256x4608.size inb_S256x4608_S256x4608_0_0
abbrev r1_1 : Rect S256x1 := Rect.unit (s := S256x1) ![0, 0] S256x1.size inb_S256x1_S256x1_0_0
abbrev r1_2 : Rect S256x128 := Rect.unit (s := S256x128) ![0, 0] S256x128.size inb_S256x128_S256x128_0_0

/-- Tile `k`: the product with 256 columns of the weights, scaled by the token's and by the columns' scales. -/
def tile (x0 : Vec F S256x4608 .fp8e4m3) (x1 : Vec F S256x1 .f32) (x4 : Vec F S4608x8192 .fp8e4m3) (x5 : Vec F S1x8192 .f32)
    (k : Fin 32) : FVec F S256x256 .f32 :=
  k1_pay9 (k1_pay2 (View.ld x0 r1_0)) (k1_pay3 (View.ld x1 r1_1)) (View.ld x4 (wRect k)) (View.ld x5 (sRect k))

/-- One head of a tile (its first or its last 128 columns) rotated, and as it is. -/
def rotated (cos sin th : FVec F S256x128 .f32) : FVec F S256x1x128 .bf16 :=
  shapeCast S256x1x128 (truncf .bf16 (addf (mulf th cos)
    (mulf (dynamicRotate 1 64#32 none th rotates_S256x128_d1) sin)) bitsLt_bf16_f32) shapeCasts_S256x128_S256x1x128
def plain (th : FVec F S256x128 .f32) : FVec F S256x1x128 .bf16 :=
  shapeCast S256x1x128 (truncf .bf16 th bitsLt_bf16_f32) shapeCasts_S256x128_S256x1x128
def loHead (t : FVec F S256x256 .f32) : FVec F S256x128 .f32 := extractStridedSlice S256x128 ![0, 0] t slices_S256x256_o0_0_S256x128
def hiHead (t : FVec F S256x256 .f32) : FVec F S256x128 .f32 := extractStridedSlice S256x128 ![0, 128] t slices_S256x256_o0_128_S256x128

/-- Window 6's buffer after the body (the queries): the two heads of tile `n`, rotated, are its rows `2 n` and `2 n + 1`. -/
def out1_6 (x0 : Vec F S256x4608 .fp8e4m3) (x1 : Vec F S256x1 .f32) (x2 : Vec F S256x128 .f32) (x3 : Vec F S256x128 .f32) (x4 : Vec F S4608x8192 .fp8e4m3) (x5 : Vec F S1x8192 .f32) : Vec F S256x32x128 .bf16 :=
  Pairs.rowsOf (M := 16) rfl
    (fun n => rotated (k1_pay4 (View.ld x2 r1_2)) (k1_pay5 (View.ld x3 r1_2)) (loHead (tile x0 x1 x4 x5 ⟨n.val, by omega⟩)))
    (fun n => rotated (k1_pay4 (View.ld x2 r1_2)) (k1_pay5 (View.ld x3 r1_2)) (hiHead (tile x0 x1 x4 x5 ⟨n.val, by omega⟩)))

/-- Window 7's (the keys): the rotated heads of the tiles from 16 on. -/
def out1_7 (x0 : Vec F S256x4608 .fp8e4m3) (x1 : Vec F S256x1 .f32) (x2 : Vec F S256x128 .f32) (x3 : Vec F S256x128 .f32) (x4 : Vec F S4608x8192 .fp8e4m3) (x5 : Vec F S1x8192 .f32) : Vec F S256x16x128 .bf16 :=
  Pairs.rowsOf (M := 8) rfl
    (fun n => rotated (k1_pay4 (View.ld x2 r1_2)) (k1_pay5 (View.ld x3 r1_2)) (loHead (tile x0 x1 x4 x5 ⟨16 + n.val, by omega⟩)))
    (fun n => rotated (k1_pay4 (View.ld x2 r1_2)) (k1_pay5 (View.ld x3 r1_2)) (hiHead (tile x0 x1 x4 x5 ⟨16 + n.val, by omega⟩)))

/-- Window 8's (the values): the heads of the tiles from 24 on, not rotated. -/
def out1_8 (x0 : Vec F S256x4608 .fp8e4m3) (x1 : Vec F S256x1 .f32) (x2 : Vec F S256x128 .f32) (x3 : Vec F S256x128 .f32) (x4 : Vec F S4608x8192 .fp8e4m3) (x5 : Vec F S1x8192 .f32) : Vec F S256x16x128 .bf16 :=
  Pairs.rowsOf (M := 8) rfl
    (fun n => plain (loHead (tile x0 x1 x4 x5 ⟨24 + n.val, by omega⟩)))
    (fun n => plain (hiHead (tile x0 x1 x4 x5 ⟨24 + n.val, by omega⟩)))

/-! ## The body's triple -/

set_option maxHeartbeats 1216000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S256x4608 .fp8e4m3) (harg1 : arg1.IsWhole) (arg2 : Memref sig .tc .vmem S256x1 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4608x8192 .fp8e4m3) (harg5 : arg5.IsWhole) (arg6 : Memref sig .tc .vmem S1x8192 .f32) (harg6 : arg6.IsWhole) (arg7 : Memref sig .tc .vmem S256x32x128 .bf16) (harg7 : arg7.IsWhole) (arg8 : Memref sig .tc .vmem S256x16x128 .bf16) (harg8 : arg8.IsWhole) (arg9 : Memref sig .tc .vmem S256x16x128 .bf16) (harg9 : arg9.IsWhole)
    (x0 : Vec F S256x4608 .fp8e4m3) (x1 : Vec F S256x1 .f32) (x2 : Vec F S256x128 .f32) (x3 : Vec F S256x128 .f32) (x4 : Vec F S4608x8192 .fp8e4m3) (x5 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1_fp8_qkv_rope i arg1 harg1 arg2 harg2 arg3 harg3 arg4 harg4 arg5 harg5 arg6 harg6 arg7 harg7 arg8 harg8 arg9 harg9) K := by
  simp only [cc1_fp8_qkv_rope_eq_skeleton]; unfold cc1_fp8_qkv_rope_skel
  simp only [k1_part21_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine Pairs.good_all (M := 16) _ _ rfl _ _ _ ?_
    refine Pairs.good_step _ _ _ _ _ 15 (by decide) _ _ _ _ _ _ _ rfl rfl ?_
    refine Pairs.good_step _ _ _ _ _ 14 (by decide) _ _ _ _ _ _ _ rfl rfl ?_
    refine Pairs.good_step _ _ _ _ _ 13 (by decide) _ _ _ _ _ _ _ rfl rfl ?_
    refine Pairs.good_step _ _ _ _ _ 12 (by decide) _ _ _ _ _ _ _ rfl rfl ?_
    refine Pairs.good_step _ _ _ _ _ 11 (by decide) _ _ _ _ _ _ _ rfl rfl ?_
    refine Pairs.good_step _ _ _ _ _ 10 (by decide) _ _ _ _ _ _ _ rfl rfl ?_
    refine Pairs.good_step _ _ _ _ _ 9 (by decide) _ _ _ _ _ _ _ rfl rfl ?_
    refine Pairs.good_step _ _ _ _ _ 8 (by decide) _ _ _ _ _ _ _ rfl rfl ?_
    refine Pairs.good_step _ _ _ _ _ 7 (by decide) _ _ _ _ _ _ _ rfl rfl ?_
    refine Pairs.good_step _ _ _ _ _ 6 (by decide) _ _ _ _ _ _ _ rfl rfl ?_
    refine Pairs.good_step _ _ _ _ _ 5 (by decide) _ _ _ _ _ _ _ rfl rfl ?_
    refine Pairs.good_step _ _ _ _ _ 4 (by decide) _ _ _ _ _ _ _ rfl rfl ?_
    refine Pairs.good_step _ _ _ _ _ 3 (by decide) _ _ _ _ _ _ _ rfl rfl ?_
    refine Pairs.good_step _ _ _ _ _ 2 (by decide) _ _ _ _ _ _ _ rfl rfl ?_
    refine Pairs.good_step _ _ _ _ _ 1 (by decide) _ _ _ _ _ _ _ rfl rfl ?_
    refine Pairs.good_step _ _ _ _ _ 0 (by decide) _ _ _ _ _ _ _ rfl rfl ?_
    exact Pairs.good_zero _ _ _ _ _ _
  isplitl [H7]
  · iexists _; isplitr
    swap; · iexact H7
    ipureintro
    refine Pairs.good_all (M := 8) _ _ rfl _ _ _ ?_
    refine Pairs.good_step _ _ _ _ _ 7 (by decide) _ _ _ _ _ _ _ rfl rfl ?_
    refine Pairs.good_step _ _ _ _ _ 6 (by decide) _ _ _ _ _ _ _ rfl rfl ?_
    refine Pairs.good_step _ _ _ _ _ 5 (by decide) _ _ _ _ _ _ _ rfl rfl ?_
    refine Pairs.good_step _ _ _ _ _ 4 (by decide) _ _ _ _ _ _ _ rfl rfl ?_
    refine Pairs.good_step _ _ _ _ _ 3 (by decide) _ _ _ _ _ _ _ rfl rfl ?_
    refine Pairs.good_step _ _ _ _ _ 2 (by decide) _ _ _ _ _ _ _ rfl rfl ?_
    refine Pairs.good_step _ _ _ _ _ 1 (by decide) _ _ _ _ _ _ _ rfl rfl ?_
    refine Pairs.good_step _ _ _ _ _ 0 (by decide) _ _ _ _ _ _ _ rfl rfl ?_
    exact Pairs.good_zero _ _ _ _ _ _
  iexists _; isplitr
  swap; · iexact H8
  ipureintro
  refine Pairs.good_all (M := 8) _ _ rfl _ _ _ ?_
  refine Pairs.good_step _ _ _ _ _ 7 (by decide) _ _ _ _ _ _ _ rfl rfl ?_
  refine Pairs.good_step _ _ _ _ _ 6 (by decide) _ _ _ _ _ _ _ rfl rfl ?_
  refine Pairs.good_step _ _ _ _ _ 5 (by decide) _ _ _ _ _ _ _ rfl rfl ?_
  refine Pairs.good_step _ _ _ _ _ 4 (by decide) _ _ _ _ _ _ _ rfl rfl ?_
  refine Pairs.good_step _ _ _ _ _ 3 (by decide) _ _ _ _ _ _ _ rfl rfl ?_
  refine Pairs.good_step _ _ _ _ _ 2 (by decide) _ _ _ _ _ _ _ rfl rfl ?_
  refine Pairs.good_step _ _ _ _ _ 1 (by decide) _ _ _ _ _ _ _ rfl rfl ?_
  refine Pairs.good_step _ _ _ _ _ 0 (by decide) _ _ _ _ _ _ _ rfl rfl ?_
  exact Pairs.good_zero _ _ _ _ _ _

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Own

end
-- ==== Proof.Run.lean ====
/- The whole run of the kernel: the host operations before, between and after the two calls, the contents of every
   buffer at each boundary between them, and what the run leaves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Region0
public import proofs.«01_k».proof.Proof.Region1

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_cst, main_v1, main_v2, main_cst_0, main_v3, main_v4, main_cst_1, main_v5, main_v6, main_cst_2, main_v7, main_v8, main_cst_3, main_v9, main_v10, main_v11, main_v12, main_v13, main_v14, main_v15]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v19, main_v20, main_v21, main_v22, main_v23]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every execution of @main on the TensorCores ends, nothing
    faulting, with every buffer of the cores at the contents `W5` the segments leave and every counter at zero. -/
theorem run : θ_run defs (onTc (τ := τ) (main (F := F))) ⟨m, fun _ => 0, ρ⟩ (fun r => (∀ c : Dev nD, ∀ b ∈ Pipeline.ucRefs τ sig, r.2.mem ((c : Thread nD τ).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- What the run leaves in one buffer of a core. -/
theorem run_read {s : MemSt nD τ sig (Elt F)}
    (h : ∀ c : Dev nD, ∀ b ∈ Pipeline.ucRefs τ sig, s.mem ((c : Thread nD τ).1, b) = W5 m ρ c b)
    (c : Dev nD) (b : Ref sig .tc) (hb : ¬ (Proc.devRef .tc b : DevRef τ sig).isScoped) :
    s.mem ((c.tc : Thread nD τ).loc b) = W5 m ρ c (Proc.devRef .tc b) :=
  h c _ (mem_uc b hb)

/-- The frame claim, at any floats: every argument ends as it was launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(run_read m ρ h.1 c main_arg0 (by decide)).trans (W5_main_arg0 m ρ c),
       (run_read m ρ h.1 c main_arg1 (by decide)).trans (W5_main_arg1 m ρ c),
       (run_read m ρ h.1 c main_arg2 (by decide)).trans (W5_main_arg2 m ρ c),
       (run_read m ρ h.1 c main_arg3 (by decide)).trans (W5_main_arg3 m ρ c),
       (run_read m ρ h.1 c main_arg4 (by decide)).trans (W5_main_arg4 m ρ c)⟩, h.2⟩) (run m ρ)

end Cert.KernelIdeal.Own

end
-- ==== Proof.Frames.lean ====
/- The three frame claims: each program runs to its end from any memory, its arguments end unchanged and every
   counter at zero. The kernel and its reading at the ideal instance are the same text, so one run serves both. -/
module

public import proofs.«01_k».proof.Defs
public import proofs.«01_k».proof.Proof.Gen.Kernel
public import proofs.«01_k».proof.Proof.Gen.ReferenceIdeal.Frame
public import proofs.«01_k».proof.Proof.Run

@[expose] public section

set_option maxRecDepth 16384

noncomputable section

namespace Cert.Proof

open Idealize.ShloMosaic Idealize.SL.Sem

/-- The kernel's frame claim at machine floats, said of the program's other copy. -/
def quiet_copy : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The same claim as the statement spells it, without its precondition. -/
def quiet_kernel : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

/-- The two copies are the same program, so the two statements are one. -/
theorem quiet_same : quiet_kernel = quiet_copy := by chain_rfl

theorem quiet_copy_holds : quiet_copy := fun m g => Cert.KernelIdeal.Own.frame (F := Bits) m g

theorem frame_Kernel : quiescent_Kernel (hKernel := Cert.Kernel.Gen.facts) := fun m g _ =>
  (quiet_same ▸ quiet_copy_holds : quiet_kernel) m g

theorem frame_KernelIdeal : quiescent_KernelIdeal (hKernelIdeal := Cert.KernelIdeal.Gen.facts) := fun m g _ =>
  Cert.KernelIdeal.Own.frame (F := Ideal) m g

theorem frame_ReferenceIdeal : quiescent_ReferenceIdeal (hReferenceIdeal := Cert.ReferenceIdeal.Gen.facts) := fun m g _ =>
  Cert.ReferenceIdeal.Gen.frame (F := Ideal) m g

end Cert.Proof

end
-- ==== Proof.Spec.lean ====
/- The mathematics that the kernel and the reference share, on one row and at one index: plain functions on the
   extended reals and on 32-bit words. -/
module

public import Idealize.ShloMosaic.PureOps.Ideal
public import Idealize.ShloMosaic.Lib.IndicatorCount

@[expose] public section

noncomputable section

namespace Cert.Spec

open Idealize.ShloMosaic

/-- The normalised activation at column `d` of a row `x`, with the gains `g`. -/
def act (x g : Fin 4608 → EReal) (d : Fin 4608) : EReal :=
  x d * Ideal.rsqrt (Ideal.div (∑ k, x k * x k) (Ideal.ofBits .f32 0x45900000#32) + Ideal.ofBits .f32 0x358637BD#32) * g d

/-- The magnitude of an extended real. -/
def mag (x : EReal) : EReal := FloatOps.absf (F := Ideal) (φ := .f32) x

/-- The largest magnitude of the row. -/
def amax (x g : Fin 4608 → EReal) : EReal :=
  Finset.univ.fold max (Ideal.ofBits .f32 0xFF800000#32) fun d => mag (act x g d)

/-- The power of two `2 ^ (k - 126)`, for `k = 0 … 253`: the normal powers of two. -/
def normalPow (k : Fin 254) : EReal :=
  Ideal.pow (Ideal.ofBits .f32 0x40000000#32)
    ((((BitVec.ofNat 32 k.val).toInt : ℝ) : EReal) - Ideal.ofBits .f32 0x42FC0000#32)

/-- How many normal powers of two are at most `y`, as a word. -/
def powCount (y : EReal) : BitVec 32 :=
  BitVec.ofNat 32 (Finset.univ.filter fun k : Fin 254 => Ideal.cmp .oge y (normalPow k) = 1#1).card

/-- The exponent `e` with `2 ^ (e - 1) ≤ y < 2 ^ e`; zero below the normal powers and at infinity. -/
def frexpExp (y : EReal) : BitVec 32 :=
  Scalar.select
    (IntOp.ori (IntOp.cmpi .eq (powCount y) 0#32) (Ideal.cmp .oeq y (Ideal.ofBits .f32 0x7F800000#32)))
    0#32 (IntOp.subi (powCount y) 126#32)

/-- The exponent of the scale of a row with largest magnitude `a`. -/
def scaleExp (a : EReal) : BitVec 32 :=
  Scalar.select (Ideal.cmp .oeq a (Ideal.ofBits .f32 0x00000000#32)) 0#32
    (frexpExp (a * Ideal.ofBits .f32 0x3B124925#32))

/-- Two to the power `e`: infinite above 127 and zero below -126. -/
def pow2 (e : BitVec 32) : EReal :=
  Scalar.select (IntOp.cmpi .sgt e 127#32) (Ideal.ofBits .f32 0x7F800000#32)
    (Scalar.select (IntOp.cmpi .slt e 4294967170#32) (Ideal.ofBits .f32 0x00000000#32)
      (Ideal.pow (Ideal.ofBits .f32 0x40000000#32) ((e.toInt : ℝ) : EReal)))

/-- The scale of a row. -/
def scale (x g : Fin 4608 → EReal) : EReal := pow2 (scaleExp (amax x g))

/-- The code of column `d` of a row: the activation over the scale, clipped to the fp8 range. -/
def code (x g : Fin 4608 → EReal) (d : Fin 4608) : EReal :=
  min (Ideal.ofBits .f32 0x43E00000#32)
    (max (Ideal.ofBits .f32 0xC3E00000#32) (act x g d * pow2 (-(scaleExp (amax x g)))))

/-- One projected value: the row's codes against a column `w` of weights, times the row's scale and the column's `s`. -/
def proj (x g w : Fin 4608 → EReal) (s : EReal) : EReal := (∑ d, code x g d * w d) * scale x g * s

/-- The angle of rotation of the pair of lanes `l`, `l + 64` at position `p`. -/
def angle (p : BitVec 32) (l : Fin 64) : EReal :=
  ((p.toInt : ℝ) : EReal) *
    Ideal.div (Ideal.ofBits .f32 0x3F800000#32)
      (Ideal.pow (Ideal.ofBits .f32 0x461C4000#32)
        (Ideal.div
          (Ideal.ofBits .f32 0x00000000#32 +
            Ideal.ofBits .f32 0x40000000#32 * (((BitVec.ofNat 32 l.val).toInt : ℝ) : EReal))
          (Ideal.ofBits .f32 0x43000000#32)))

/-- Lane `l` of a head `t` rotated at position `p`: the two halves of the head are the two coordinates. -/
def rope (t : Fin 128 → EReal) (p : BitVec 32) (l : Fin 128) : EReal :=
  if h : l.val < 64 then
    t l * Ideal.cos (angle p ⟨l.val, h⟩)
      - t ⟨l.val + 64, by omega⟩ * Ideal.sin (angle p ⟨l.val, h⟩)
  else
    t l * Ideal.cos (angle p ⟨l.val - 64, by omega⟩)
      + t ⟨l.val - 64, by omega⟩ * Ideal.sin (angle p ⟨l.val - 64, by omega⟩)

end Cert.Spec

end
-- ==== Proof.Exponent.lean ====
/- The exponents on words. The kernel finds the exponent of a float by a binary search for the largest exponent
   field whose power of two is at most the float, and builds a power of two by placing its field in a word. Both
   are the shared functions of Spec.lean, which count the powers of two and take a real power. -/
module

public import proofs.«01_k».proof.Proof.Spec

@[expose] public section

noncomputable section

namespace Cert.Spec

open Idealize.ShloMosaic

/-! ## The kernel's two functions on words -/

/-- The float whose exponent field is the word `v`: positive, with no fraction. -/
def fieldFloat (v : BitVec 32) : EReal := Ideal.ofBits .f32 (IntOp.shli .vector v 23#32)

/-- One step of the search: add `s` to the field when the float of the sum is at most `y`. -/
def searchStep (y : EReal) (v s : BitVec 32) : BitVec 32 :=
  Scalar.select (Ideal.cmp .oge y (fieldFloat (IntOp.addi v s))) (IntOp.addi v s) v

/-- The exponent field of `y`, by eight steps. -/
def searchField (y : EReal) : BitVec 32 :=
  searchStep y (searchStep y (searchStep y (searchStep y (searchStep y (searchStep y (searchStep y
    (searchStep y 0#32 128#32) 64#32) 32#32) 16#32) 8#32) 4#32) 2#32) 1#32

/-- The exponent from the field. -/
def searchExp (y : EReal) : BitVec 32 :=
  Scalar.select (IntOp.ori (IntOp.cmpi .eq (searchField y) 0#32) (IntOp.cmpi .eq (searchField y) 255#32))
    0#32 (IntOp.subi (searchField y) 126#32)

/-- The power of two by its clipped field. -/
def fieldPow (e : BitVec 32) : EReal :=
  fieldFloat (IntOp.minsi 255#32 (IntOp.maxsi 0#32 (IntOp.addi e 127#32)))

/-! ## The float of a field -/

theorem two_bits : Ideal.ofBits .f32 0x40000000#32 = ((2 : ℝ) : EReal) := by
  simp [Ideal.ofBits, Ideal.ieee, -EReal.coe_mul]; norm_num

theorem bias_bits : Ideal.ofBits .f32 0x42FC0000#32 = ((126 : ℝ) : EReal) := by
  simp [Ideal.ofBits, Ideal.ieee, -EReal.coe_mul]; norm_num

theorem top_bits : Ideal.ofBits .f32 0x7F800000#32 = ⊤ := by
  simp [Ideal.ofBits, Ideal.ieee]

theorem zero_bits : Ideal.ofBits .f32 0x00000000#32 = 0 := by
  simp [Ideal.ofBits, Ideal.ieee]

/-- The three parts of a word that holds only an exponent field. -/
theorem field_parts : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- A mantissa of one at a biased exponent `n`, as the reading of a float writes it. -/
theorem one_mantissa (n : ℤ) :
    (1 : ℝ) * ((2 ^ 23 + 0 : ℕ) : ℝ) * (2 : ℝ) ^ (n - (2 ^ (8 - 1) - 1) - (23 : ℕ) : ℤ) = (2 : ℝ) ^ (n - 127) := by
  have e : n - (2 ^ (8 - 1) - 1) - (23 : ℕ) = (n - 127) - (23 : ℕ) := by norm_num
  rw [e, zpow_sub₀ (by norm_num : (2 : ℝ) ≠ 0), zpow_natCast]
  push_cast
  field_simp
  ring

/-- The float of a word that holds only the exponent field `n`. -/
theorem ieee_field (b : BitVec 32) (n : ℕ) (h1 : (b.extractLsb' (8 + 23) 1 == 1#1) = false)
    (h2 : (b.extractLsb' 23 8).toNat = n) (h3 : (b.extractLsb' 0 23).toNat = 0) :
    Ideal.ieee 8 23 b
      = if n = 255 then ⊤ else if n = 0 then 0 else (((2 : ℝ) ^ ((n : ℤ) - 127) : ℝ) : EReal) := by
  unfold Ideal.ieee
  dsimp only
  rw [h1, h2, h3]
  have e255 : (2 : ℕ) ^ 8 - 1 = 255 := by norm_num
  rw [e255, if_neg Bool.false_ne_true, if_neg Bool.false_ne_true, if_pos rfl]
  by_cases hn : n = 255
  · rw [if_pos hn, if_pos hn]
  rw [if_neg hn, if_neg hn]
  by_cases h0 : n = 0
  · rw [if_pos h0, if_pos h0, Nat.cast_zero, mul_zero, zero_mul]
    exact EReal.coe_zero
  rw [if_neg h0, if_neg h0]
  exact congrArg Real.toEReal (one_mantissa n)

theorem fieldFloat_eq (n : Fin 256) :
    fieldFloat (BitVec.ofNat 32 n.val)
      = if n.val = 255 then ⊤ else if n.val = 0 then 0 else (((2 : ℝ) ^ ((n.val : ℤ) - 127) : ℝ) : EReal) :=
  ieee_field _ _ (field_parts n).1 (field_parts n).2.1 (field_parts n).2.2

/-- Fields are ordered as their floats are. -/
theorem fieldFloat_mono {a b : Fin 256} (h : a ≤ b) :
    fieldFloat (BitVec.ofNat 32 a.val) ≤ fieldFloat (BitVec.ofNat 32 b.val) := by
  have hab : a.val ≤ b.val := h
  rw [fieldFloat_eq, fieldFloat_eq]
  by_cases hb : b.val = 255
  · rw [if_pos hb]; exact le_top
  rw [if_neg hb, if_neg (show ¬ a.val = 255 by have := b.isLt; omega)]
  by_cases ha : a.val = 0
  · rw [if_pos ha]
    split
    · exact le_rfl
    · exact_mod_cast (zpow_pos (by norm_num : (0 : ℝ) < 2) _).le
  · rw [if_neg ha, if_neg (show ¬ b.val = 0 by omega)]
    exact EReal.coe_le_coe_iff.2 (zpow_le_zpow_right₀ (by norm_num : (1 : ℝ) ≤ 2) (by omega))

/-- The real power of two at an integer. -/
theorem pow_int (i : ℤ) :
    Ideal.pow (Ideal.ofBits .f32 0x40000000#32) ((i : ℝ) : EReal) = (((2 : ℝ) ^ i : ℝ) : EReal) := by
  rw [two_bits, Ideal.pow_coe_coe]
  exact congrArg _ (Real.rpow_intCast 2 i)

theorem toInt_small : ∀ k : Fin 254, (BitVec.ofNat 32 k.val).toInt = (k.val : ℤ) := by decide +kernel

/-- The `k`-th normal power is the float of the field `k + 1`. -/
theorem normalPow_eq (k : Fin 254) : normalPow k = fieldFloat (BitVec.ofNat 32 (k.val + 1)) := by
  have h := fieldFloat_eq ⟨k.val + 1, by omega⟩
  simp only at h
  rw [h, if_neg (by omega), if_neg (by omega)]
  unfold normalPow
  rw [toInt_small, bias_bits, ← EReal.coe_sub]
  have e : (((k.val : ℤ) : ℝ) - 126) = (((k.val : ℤ) - 126 : ℤ) : ℝ) := by push_cast; ring
  rw [e, pow_int]
  congr 2
  push_cast
  omega

/-! ## The search -/

/-- What a search over fields below `f + s` knows: the field found is zero or at most `y`, and the field `f + s`
    is past the end or above `y`. -/
def Found (y : EReal) (v : BitVec 32) (s : ℕ) : Prop :=
  ∃ f : ℕ, v = BitVec.ofNat 32 f ∧ f + s ≤ 256 ∧ (f = 0 ∨ fieldFloat (BitVec.ofNat 32 f) ≤ y)
    ∧ (f + s = 256 ∨ ¬ fieldFloat (BitVec.ofNat 32 (f + s)) ≤ y)

theorem found_start (y : EReal) : Found y 0#32 256 := ⟨0, rfl, le_rfl, .inl rfl, .inl rfl⟩

theorem found_step {y : EReal} {v : BitVec 32} (s : ℕ) (h : Found y v (s + s)) :
    Found y (searchStep y v (BitVec.ofNat 32 s)) s := by
  obtain ⟨f, rfl, hle, hlo, hhi⟩ := h
  have e : IntOp.addi (BitVec.ofNat 32 f) (BitVec.ofNat 32 s) = BitVec.ofNat 32 (f + s) :=
    (BitVec.ofNat_add f s).symm
  unfold searchStep
  rw [e]
  by_cases hc : fieldFloat (BitVec.ofNat 32 (f + s)) ≤ y
  · refine ⟨f + s, ?_, by omega, .inr hc, ?_⟩
    · simp [Scalar.select, Ideal.cmp, hc]
    · rw [Nat.add_assoc]; exact hhi
  · refine ⟨f, ?_, by omega, hlo, .inr hc⟩
    simp [Scalar.select, Ideal.cmp, hc]

theorem found_field (y : EReal) : Found y (searchField y) 1 :=
  found_step 1 (found_step 2 (found_step 4 (found_step 8 (found_step 16 (found_step 32
    (found_step 64 (found_step 128 (found_start y))))))))

/-- How many of the first 254 naturals are below `f`. -/
theorem card_below (f : ℕ) (hf : f ≤ 254) : (Finset.univ.filter fun k : Fin 254 => k.val < f).card = f := by
  rw [Fin.card_filter_val_lt]
  exact min_eq_right hf

/-- The exponent that the search finds is the one the count of the powers gives. -/
theorem searchExp_eq (y : EReal) : searchExp y = frexpExp y := by
  obtain ⟨f, hv, hle, hlo, hhi⟩ := found_field y
  have htop := fieldFloat_eq ⟨255, by omega⟩
  simp only [if_true] at htop
  -- a field in range is at most `y` exactly when it is at most the field found
  have key : ∀ n : ℕ, 1 ≤ n → n ≤ 255 → (fieldFloat (BitVec.ofNat 32 n) ≤ y ↔ n ≤ f) := by
    intro n h1 h2
    constructor
    · intro hn
      by_contra hc
      rcases hhi with h | h
      · omega
      · exact h ((fieldFloat_mono (a := ⟨f + 1, by omega⟩) (b := ⟨n, by omega⟩)
          (show f + 1 ≤ n by omega)).trans hn)
    · intro hn
      rcases hlo with h | h
      · omega
      · exact (fieldFloat_mono (a := ⟨n, by omega⟩) (b := ⟨f, by omega⟩) hn).trans h
  have hinf : y = ⊤ ↔ f = 255 := by
    have := key 255 (by omega) (by omega)
    rw [htop, top_le_iff] at this
    rw [this]
    omega
  have hcount : powCount y = BitVec.ofNat 32 (min f 254) := by
    unfold powCount
    congr 1
    rw [← card_below (min f 254) (by omega)]
    congr 1
    ext k
    simp only [Finset.mem_filter, Finset.mem_univ, true_and]
    have := key (k.val + 1) (by omega) (by omega)
    rw [normalPow_eq]
    have hk := k.isLt
    by_cases hc : k.val + 1 ≤ f
    · have h1 := this.2 hc
      simp only [Ideal.cmp, h1, decide_true, BitVec.ofBool_true]
      exact ⟨fun _ => lt_min (by omega) hk, fun _ => rfl⟩
    · have h1 : ¬ fieldFloat (BitVec.ofNat 32 (k.val + 1)) ≤ y := fun h => hc (this.1 h)
      simp only [Ideal.cmp, h1, decide_false, BitVec.ofBool_false]
      constructor
      · intro h; exact absurd h (by decide)
      · intro h
        exact absurd (lt_min_iff.1 h).1 (by omega)
  unfold searchExp frexpExp
  rw [hv, hcount, top_bits]
  by_cases h255 : f = 255
  · have hy := hinf.2 h255
    subst h255
    subst hy
    simp [Ideal.cmp, Scalar.select, IntOp.ori, IntOp.cmpi]
  · have hy : y ≠ ⊤ := fun h => h255 (hinf.1 h)
    have hmin : min f 254 = f := min_eq_left (by omega)
    rw [hmin]
    have hne : IntOp.cmpi .eq (BitVec.ofNat 32 f) 255#32 = 0#1 := by
      have : BitVec.ofNat 32 f ≠ 255#32 := fun h => h255 (by
        have := congrArg BitVec.toNat h
        simp only [BitVec.toNat_ofNat] at this
        omega)
      show BitVec.ofBool (BitVec.ofNat 32 f == 255#32) = 0#1
      rw [beq_eq_false_iff_ne.2 this]
      rfl
    have hcm : Ideal.cmp .oeq y ⊤ = 0#1 := by simp [Ideal.cmp, hy]
    rw [hne, hcm]

/-! ## The power of two -/

/-- An exponent is small when it is `k - 128` with `k` up to 256. -/
def Small (e : BitVec 32) : Prop := ∃ k : Fin 257, e = BitVec.ofNat 32 k.val - 128#32

/-- The exponents that a count of the normal powers gives are small, and so are their opposites. -/
theorem small_count : ∀ n : Fin 255,
    Small (IntOp.subi (BitVec.ofNat 32 n.val) 126#32) ∧ Small (-(IntOp.subi (BitVec.ofNat 32 n.val) 126#32)) := by
  intro n
  have h1 : ∀ n : Fin 255, IntOp.subi (BitVec.ofNat 32 n.val) 126#32 = BitVec.ofNat 32 (n.val + 2) - 128#32 := by
    decide +kernel
  have h2 : ∀ n : Fin 255, -(IntOp.subi (BitVec.ofNat 32 n.val) 126#32) = BitVec.ofNat 32 (254 - n.val) - 128#32 := by
    decide +kernel
  exact ⟨⟨⟨n.val + 2, by omega⟩, h1 n⟩, ⟨⟨254 - n.val, by omega⟩, h2 n⟩⟩

theorem small_frexpExp (y : EReal) : Small (frexpExp y) ∧ Small (-(frexpExp y)) := by
  have hz : Small 0#32 ∧ Small (-(0#32)) := ⟨⟨128, by decide⟩, ⟨128, by decide⟩⟩
  unfold frexpExp Scalar.select
  split
  · exact hz
  · have hc : (Finset.univ.filter fun k : Fin 254 => Ideal.cmp .oge y (normalPow k) = 1#1).card ≤ 254 :=
      (Finset.card_le_univ _).trans (by simp)
    exact small_count ⟨_, Nat.lt_succ_of_le hc⟩

theorem small_scaleExp (a : EReal) : Small (scaleExp a) ∧ Small (-(scaleExp a)) := by
  have hz : Small 0#32 ∧ Small (-(0#32)) := ⟨⟨128, by decide⟩, ⟨128, by decide⟩⟩
  unfold scaleExp Scalar.select
  split
  · exact hz
  · exact small_frexpExp _

/-- What the words of a small exponent are: its clipped field, the two comparisons and its value. -/
theorem small_words : ∀ k : Fin 257,
    IntOp.minsi 255#32 (IntOp.maxsi 0#32 (IntOp.addi (BitVec.ofNat 32 k.val - 128#32) 127#32))
        = BitVec.ofNat 32 (k.val - 1)
      ∧ IntOp.cmpi .sgt (BitVec.ofNat 32 k.val - 128#32) 127#32 = BitVec.ofBool (decide (k.val = 256))
      ∧ IntOp.cmpi .slt (BitVec.ofNat 32 k.val - 128#32) 4294967170#32 = BitVec.ofBool (decide (k.val < 2))
      ∧ (BitVec.ofNat 32 k.val - 128#32).toInt = (k.val : ℤ) - 128 := by
  decide +kernel

/-- On small exponents the float of the clipped field is the power of two. -/
theorem fieldPow_eq {e : BitVec 32} (h : Small e) : fieldPow e = pow2 e := by
  obtain ⟨k, rfl⟩ := h
  obtain ⟨h1, h2, h3, h4⟩ := small_words k
  have hf := fieldFloat_eq ⟨k.val - 1, by omega⟩
  simp only at hf
  unfold fieldPow pow2
  rw [h1, h2, h3, h4, hf, top_bits, zero_bits, pow_int]
  by_cases ha : k.val = 256
  · rw [if_pos (by omega)]
    simp [Scalar.select, ha]
  · rw [if_neg (by omega)]
    by_cases hb : k.val < 2
    · rw [if_pos (by omega)]
      simp [Scalar.select, ha, hb]
    · rw [if_neg (by omega)]
      simp only [ha, hb, decide_false, BitVec.ofBool_false, Scalar.select]
      rw [if_neg (by decide), if_neg (by decide)]
      congr 2
      omega

end Cert.Spec

end
-- ==== Proof.KernelQuant.lean ====
/- The values the kernel's first call computes, read at one index at exact real arithmetic: each is the shared
   function of Spec.lean. -/
module

public import proofs.«01_k».proof.Proof.Region0
public import proofs.«01_k».proof.Proof.Exponent
public import Idealize.ShloMosaic.Lib.Pointwise
public import Idealize.ShloMosaic.Lib.Pipeline.ValueKit

@[expose] public section

set_option maxRecDepth 16384
set_option backward.isDefEq.respectTransparency false

noncomputable section

namespace Cert.KernelIdeal.Own

open Cert.KernelIdeal Cert.KernelIdeal.Gen
open Idealize.ShloMosaic

theorem zeros2 : (![0, 0] : Fin 2 → Nat) = fun _ => 0 := by decide

/-! ## The activations and their scale -/

/-- The normalised activation. -/
theorem act_at (x : FVec Ideal S256x4608 .bf16) (g : FVec Ideal S1x4608 .f32) (r : Fin 256) (d : Fin 4608) :
    k0_pay4 (F := Ideal) x g (ix2 r d) = Spec.act (fun k => x (ix2 r k)) (fun k => g (ix2 0 k)) d := by
  pointwise [k0_pay4, Spec.act]

/-- The largest magnitude of a row. -/
theorem amax_at (x : FVec Ideal S256x4608 .bf16) (g : FVec Ideal S1x4608 .f32) (r : Fin 256) :
    k0_pay5 (F := Ideal) x g (ix2 r 0) = Spec.amax (fun k => x (ix2 r k)) (fun k => g (ix2 0 k)) := by
  have e : k0_pay5 (F := Ideal) x g (ix2 r 0)
      = Finset.univ.fold max (Ideal.ofBits .f32 0xFF800000#32)
          fun d => Spec.mag (k0_pay4 (F := Ideal) x g (ix2 r d)) := by
    pointwise [k0_pay5, Spec.mag]
  rw [e]
  unfold Spec.amax
  simp only [act_at]

/-- One step of the search for the exponent, on the whole column of rows. -/
def stepV (y : FVec Ideal S256x1 .f32) (v : IVec S256x1 32) (s : BitVec 32) : IVec S256x1 32 :=
  select (cmpf .oge y (bitcastToFloat (F := Ideal) .f32 (shli (addi v (broadcast S256x1 s)) (broadcast S256x1 23#32))))
    (addi v (broadcast S256x1 s)) v

theorem stepV_at (y : FVec Ideal S256x1 .f32) (v : IVec S256x1 32) (s : BitVec 32) (j : S256x1.Idx) :
    stepV y v s j = Spec.searchStep (y j) (v j) s := rfl

/-- The eight steps. -/
def fieldV (y : FVec Ideal S256x1 .f32) : IVec S256x1 32 :=
  stepV y (stepV y (stepV y (stepV y (stepV y (stepV y (stepV y
    (stepV y (broadcast S256x1 0#32) 128#32) 64#32) 32#32) 16#32) 8#32) 4#32) 2#32) 1#32

theorem fieldV_at (y : FVec Ideal S256x1 .f32) (j : S256x1.Idx) : fieldV y j = Spec.searchField (y j) := by
  unfold fieldV Spec.searchField
  simp only [stepV_at]
  rfl

/-- What the call computes for the exponent is the search. -/
theorem pay10_eq (x : FVec Ideal S256x4608 .bf16) (g : FVec Ideal S1x4608 .f32) :
    k0_pay10 (F := Ideal) (k0_pay6 (F := Ideal) x g) (k0_pay7 (F := Ideal) x g) (k0_pay8 (F := Ideal) x g) (k0_pay9 (F := Ideal) x g)
      = select (ori (cmpi .eq (fieldV (k0_pay6 (F := Ideal) x g)) (broadcast S256x1 0#32))
            (cmpi .eq (fieldV (k0_pay6 (F := Ideal) x g)) (broadcast S256x1 255#32)))
          (broadcast S256x1 0#32)
          (subi (fieldV (k0_pay6 (F := Ideal) x g)) (broadcast S256x1 126#32)) := rfl

theorem frexp_at (x : FVec Ideal S256x4608 .bf16) (g : FVec Ideal S1x4608 .f32) (r : Fin 256) :
    k0_pay10 (F := Ideal) (k0_pay6 (F := Ideal) x g) (k0_pay7 (F := Ideal) x g) (k0_pay8 (F := Ideal) x g) (k0_pay9 (F := Ideal) x g) (ix2 r 0)
      = Spec.frexpExp (k0_pay5 (F := Ideal) x g (ix2 r 0) * Ideal.ofBits .f32 0x3B124925#32) := by
  rw [pay10_eq, ← Spec.searchExp_eq]
  unfold Spec.searchExp
  have e : k0_pay6 (F := Ideal) x g (ix2 r 0)
      = k0_pay5 (F := Ideal) x g (ix2 r 0) * Ideal.ofBits .f32 0x3B124925#32 := rfl
  rw [← e, ← fieldV_at]
  rfl

/-- The exponent of the scale, as both stores use it. -/
theorem scaleExp_at (x : FVec Ideal S256x4608 .bf16) (g : FVec Ideal S1x4608 .f32) (r : Fin 256) :
    k0_pay11 (F := Ideal) (k0_pay5 (F := Ideal) x g)
        (k0_pay10 (F := Ideal) (k0_pay6 (F := Ideal) x g) (k0_pay7 (F := Ideal) x g) (k0_pay8 (F := Ideal) x g) (k0_pay9 (F := Ideal) x g))
        (Scalar.ofBits .f32 0x00000000#32) (ix2 r 0)
      = Spec.scaleExp (Spec.amax (fun k => x (ix2 r k)) (fun k => g (ix2 0 k))) := by
  have e : ∀ (a : FVec Ideal S256x1 .f32) (v : IVec S256x1 32),
      k0_pay11 (F := Ideal) a v (Scalar.ofBits .f32 0x00000000#32) (ix2 r 0)
        = Scalar.select (Ideal.cmp .oeq (a (ix2 r 0)) (Ideal.ofBits .f32 0x00000000#32)) 0#32 (v (ix2 r 0)) :=
    fun _ _ => rfl
  rw [e, frexp_at, amax_at]
  rfl

theorem pay12_at (a : FVec Ideal S256x1 .f32) (v : IVec S256x1 32) (c : EReal) (r : Fin 256) :
    k0_pay12 (F := Ideal) a v c (ix2 r 0) = Spec.fieldPow (k0_pay11 (F := Ideal) a v c (ix2 r 0)) := rfl

theorem pay13_at (h : FVec Ideal S256x4608 .f32) (a : FVec Ideal S256x1 .f32) (v : IVec S256x1 32) (c : EReal)
    (r : Fin 256) (d : Fin 4608) :
    k0_pay13 (F := Ideal) h a v c (ix2 r d)
      = min (Ideal.ofBits .f32 0x43E00000#32)
          (max (Ideal.ofBits .f32 0xC3E00000#32)
            (h (ix2 r d) * Spec.fieldPow (IntOp.subi 0#32 (k0_pay11 (F := Ideal) a v c (ix2 r 0))))) := by
  pointwise [k0_pay13, Spec.fieldPow, Spec.fieldFloat]
  try rfl

/-- The codes that the first call leaves in its block of rows. -/
theorem codes_at (x0 : FVec Ideal S256x4608 .bf16) (x1 : FVec Ideal S1x4608 .f32) (x2 : IVec S256x1 32)
    (x3 : FVec Ideal S1x128 .f32) (r : Fin 256) (d : Fin 4608) :
    out0_4 (F := Ideal) x0 x1 x2 x3 (ix2 r d) = Spec.code (fun k => x0 (ix2 r k)) (fun k => x1 (ix2 0 k)) d := by
  unfold out0_4 k0_pay16 k0_pay17
  rw [View.canon_unit_zero zeros2, View.ld_unit_zero zeros2, View.ld_unit_zero zeros2]
  refine (pay13_at _ _ _ _ r d).trans ?_
  rw [scaleExp_at, act_at]
  have e : ∀ a : BitVec 32, IntOp.subi 0#32 a = -a := fun a => BitVec.zero_sub a
  rw [e, Spec.fieldPow_eq (Spec.small_scaleExp _).2]
  rfl

/-- The scales that it leaves. -/
theorem scale_at (x0 : FVec Ideal S256x4608 .bf16) (x1 : FVec Ideal S1x4608 .f32) (x2 : IVec S256x1 32)
    (x3 : FVec Ideal S1x128 .f32) (r : Fin 256) :
    out0_5 (F := Ideal) x0 x1 x2 x3 (ix2 r 0) = Spec.scale (fun k => x0 (ix2 r k)) (fun k => x1 (ix2 0 k)) := by
  unfold out0_5 k0_pay16 k0_pay17
  rw [View.canon_unit_zero zeros2, View.ld_unit_zero zeros2, View.ld_unit_zero zeros2]
  refine (pay12_at _ _ _ r).trans ?_
  rw [scaleExp_at, Spec.fieldPow_eq (Spec.small_scaleExp _).1]
  rfl

/-- The cosines of the angles. -/
theorem cos_at (x0 : FVec Ideal S256x4608 .bf16) (x1 : FVec Ideal S1x4608 .f32) (x2 : IVec S256x1 32)
    (x3 : FVec Ideal S1x128 .f32) (r : Fin 256) (l : Fin 128) :
    out0_6 (F := Ideal) x0 x1 x2 x3 (ix2 r l)
      = Ideal.cos ((((x2 (ix2 r 0)).toInt : ℝ) : EReal) * x3 (ix2 0 l)) := by
  unfold out0_6 k0_pay18 k0_pay19
  rw [View.canon_unit_zero zeros2, View.ld_unit_zero zeros2, View.ld_unit_zero zeros2]
  pointwise [k0_pay2, k0_pay1, k0_pay14, k0_pay15]
  rfl

theorem lane_lt : ∀ l : Fin 128, IntOp.cmpi .slt (BitVec.ofNat 32 l.val) 64#32 = BitVec.ofBool (decide (l.val < 64)) := by
  decide +kernel

/-- The sines, negated in the first half of the lanes. -/
theorem sin_at (x0 : FVec Ideal S256x4608 .bf16) (x1 : FVec Ideal S1x4608 .f32) (x2 : IVec S256x1 32)
    (x3 : FVec Ideal S1x128 .f32) (r : Fin 256) (l : Fin 128) :
    out0_7 (F := Ideal) x0 x1 x2 x3 (ix2 r l)
      = if l.val < 64 then -Ideal.sin ((((x2 (ix2 r 0)).toInt : ℝ) : EReal) * x3 (ix2 0 l))
        else Ideal.sin ((((x2 (ix2 r 0)).toInt : ℝ) : EReal) * x3 (ix2 0 l)) := by
  unfold out0_7 k0_pay18 k0_pay19
  rw [View.canon_unit_zero zeros2, View.ld_unit_zero zeros2, View.ld_unit_zero zeros2]
  have e : ∀ (p : FVec Ideal S256x1 .f32) (f : FVec Ideal S1x128 .f32), k0_pay3 (F := Ideal) p f (ix2 r l)
      = Scalar.select (IntOp.cmpi .slt (BitVec.ofNat 32 l.val) 64#32)
          (Ideal.ofBits .f32 0x00000000#32 - Ideal.sin (p (ix2 r 0) * f (ix2 0 l)))
          (Ideal.sin (p (ix2 r 0) * f (ix2 0 l))) := by
    intro p f
    pointwise [k0_pay3, k0_pay1]
  have ep : ∀ p : IVec S256x1 32, k0_pay14 (F := Ideal) p (ix2 r 0) = (((p (ix2 r 0)).toInt : ℝ) : EReal) := by
    intro p
    pointwise [k0_pay14]
    rfl
  have ef : ∀ f : FVec Ideal S1x128 .f32, k0_pay15 (F := Ideal) f (ix2 0 l) = f (ix2 0 l) := by
    intro f
    pointwise [k0_pay15]
  refine (e _ _).trans ?_
  rw [ep, ef, lane_lt, Spec.zero_bits, zero_sub]
  by_cases h : l.val < 64 <;> simp [Scalar.select, h]

end Cert.KernelIdeal.Own

end
-- ==== Proof.Arrays0.lean ====
/- The arrays that the kernel's first call leaves, row by row, from the arrays it is given. -/
module

public import proofs.«01_k».proof.Proof.KernelQuant

@[expose] public section

set_option maxRecDepth 16384

noncomputable section

namespace Cert.KernelIdeal.Own

open Cert.KernelIdeal Cert.KernelIdeal.Gen
open Idealize.ShloMosaic Idealize.ShloMosaic.TcCoe
open Idealize.ShloMosaic.Pipeline (Dat)

/-- The blocks of the first call's windows: point `t` of the grid works on the rows from `256 t` on. -/
theorem idx0 : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] ∧ win0_6.index t = ![t.val, 0]
      ∧ win0_7.index t = ![t.val, 0] :=
  (by decide +kernel : ∀ t : Fin grid0.N, _)

variable (V : (c : Dev nD) → (b : Ref sig .tc) → Buf (Elt Ideal) ((c : Thread nD τ).loc b)) (c : Dev nD)

/-- The row of the arrays that row `r` of the block at point `t` is. -/
def row0 (t : Fin cfg0.N) (r : Fin 256) : Fin 4096 :=
  ⟨t.val * 256 + r.val, by have h : t.val < 16 := lt_of_lt_of_eq t.isLt N_0; omega⟩

/-- An array of rows from its entries. -/
def rows {n : ℕ} (f : Fin 4096 → Fin n → EReal) : (⟨2, ![4096, n]⟩ : Shape).Idx → EReal := fun i => f (i 0) (i 1)

/-- What the four output arrays hold at a row and a column, from the arrays that the call finds. -/
def codesOf (x : FVec Ideal S4096x4608 .bf16) (g : FVec Ideal S1x4608 .f32) (r : Fin 4096) (d : Fin 4608) : EReal :=
  Spec.code (fun k => x (ix2 r k)) (fun k => g (ix2 0 k)) d
def scaleOf (x : FVec Ideal S4096x4608 .bf16) (g : FVec Ideal S1x4608 .f32) (r : Fin 4096) (_ : Fin 1) : EReal :=
  Spec.scale (fun k => x (ix2 r k)) (fun k => g (ix2 0 k))
def angleOf (p : IVec S4096x1 32) (f : FVec Ideal S1x128 .f32) (r : Fin 4096) (l : Fin 128) : EReal :=
  (((p (ix2 r 0)).toInt : ℝ) : EReal) * f (ix2 0 l)
def cosOf (p : IVec S4096x1 32) (f : FVec Ideal S1x128 .f32) (r : Fin 4096) (l : Fin 128) : EReal :=
  Ideal.cos (angleOf p f r l)
def sinOf (p : IVec S4096x1 32) (f : FVec Ideal S1x128 .f32) (r : Fin 4096) (l : Fin 128) : EReal :=
  if l.val < 64 then -Ideal.sin (angleOf p f r l) else Ideal.sin (angleOf p f r l)

/-! ### The input blocks, read in the arrays -/

theorem blk0_0 (t : Fin cfg0.N) (r : Fin 256) (d : Fin 4608) :
    (show FVec Ideal S256x4608 .bf16 from iblk0 V c 0 t) (ix2 r d) = V c main_v13 (ix2 (row0 t r) d) := by
  unfold row0; blk_ext [iblk0, idx0 t]
theorem blk0_1 (t : Fin cfg0.N) (d : Fin 4608) :
    (show FVec Ideal S1x4608 .f32 from iblk0 V c 1 t) (ix2 0 d) = V c main_v14 (ix2 0 d) := by
  blk_ext [iblk0, idx0 t]
theorem blk0_2 (t : Fin cfg0.N) (r : Fin 256) :
    (show IVec S256x1 32 from iblk0 V c 2 t) (ix2 r 0) = V c main_v15 (ix2 (row0 t r) 0) := by
  unfold row0; blk_ext [iblk0, idx0 t]
theorem blk0_3 (t : Fin cfg0.N) (l : Fin 128) :
    (show FVec Ideal S1x128 .f32 from iblk0 V c 3 t) (ix2 0 l) = V c main_v12 (ix2 0 l) := by
  blk_ext [iblk0, idx0 t]

/-- The angle over the blocks is the same over the arrays. -/
theorem angle_blk (t : Fin cfg0.N) (r : Fin 256) (l : Fin 128) :
    ((((show IVec S256x1 32 from iblk0 V c 2 t) (ix2 r 0)).toInt : ℝ) : EReal)
        * (show FVec Ideal S1x128 .f32 from iblk0 V c 3 t) (ix2 0 l)
      = angleOf (V c main_v15) (V c main_v12) (row0 t r) l :=
  congrArg₂ (· * ·) (congrArg (fun b : BitVec 32 => ((b.toInt : ℝ) : EReal)) (blk0_2 V c t r)) (blk0_3 V c t l)

/-! ### The output arrays -/

/-- The codes. -/
theorem array0_4 : (dat0 V c).arrAt 4 cfg0.N = rows (n := 4608) (codesOf (V c main_v13) (V c main_v14)) := by
  refine (dat0 V c).arrAt_eq_of_covers 4 _ (by decide +kernel) fun t _ y => ?_
  have hy : ((cfg0.win 4).blk t).view.emb y = ix2 (row0 t (y 0)) (y 1) := by
    unfold row0; blk_ext [idx0 t]
  blk_simp
  rw [after0_4]
  refine (congrArg _ (eq_ix2 y)).trans ((codes_at _ _ _ _ (y 0) (y 1)).trans ?_)
  refine Eq.trans ?_ (congrArg (rows (n := 4608) (codesOf (V c main_v13) (V c main_v14))) hy).symm
  exact congr (congr (congrArg Spec.code (funext fun k => blk0_0 V c t (y 0) k)) (funext fun k => blk0_1 V c t k)) rfl

/-- The scales. -/
theorem array0_5 : (dat0 V c).arrAt 5 cfg0.N = rows (n := 1) (scaleOf (V c main_v13) (V c main_v14)) := by
  refine (dat0 V c).arrAt_eq_of_covers 5 _ (by decide +kernel) fun t _ y => ?_
  have hy : ((cfg0.win 5).blk t).view.emb y = ix2 (row0 t (y 0)) (y 1) := by
    unfold row0; blk_ext [idx0 t]
  blk_simp
  rw [after0_5]
  refine (congrArg _ (show y = ix2 (y 0) 0 from (eq_ix2 y).trans (congrArg (ix2 (y 0)) (Subsingleton.elim (α := Fin 1) _ _)))).trans ((scale_at _ _ _ _ (y 0)).trans ?_)
  refine Eq.trans ?_ (congrArg (rows (n := 1) (scaleOf (V c main_v13) (V c main_v14))) hy).symm
  exact congr (congrArg Spec.scale (funext fun k => blk0_0 V c t (y 0) k)) (funext fun k => blk0_1 V c t k)

/-- The cosines. -/
theorem array0_6 : (dat0 V c).arrAt 6 cfg0.N = rows (n := 128) (cosOf (V c main_v15) (V c main_v12)) := by
  refine (dat0 V c).arrAt_eq_of_covers 6 _ (by decide +kernel) fun t _ y => ?_
  have hy : ((cfg0.win 6).blk t).view.emb y = ix2 (row0 t (y 0)) (y 1) := by
    unfold row0; blk_ext [idx0 t]
  blk_simp
  rw [after0_6]
  refine (congrArg _ (eq_ix2 y)).trans ((cos_at _ _ _ _ (y 0) (y 1)).trans ?_)
  refine Eq.trans ?_ (congrArg (rows (n := 128) (cosOf (V c main_v15) (V c main_v12))) hy).symm
  exact congrArg Ideal.cos (angle_blk V c t (y 0) (y 1))

/-- The signed sines. -/
theorem array0_7 : (dat0 V c).arrAt 7 cfg0.N = rows (n := 128) (sinOf (V c main_v15) (V c main_v12)) := by
  refine (dat0 V c).arrAt_eq_of_covers 7 _ (by decide +kernel) fun t _ y => ?_
  have hy : ((cfg0.win 7).blk t).view.emb y = ix2 (row0 t (y 0)) (y 1) := by
    unfold row0; blk_ext [idx0 t]
  blk_simp
  rw [after0_7]
  refine (congrArg _ (eq_ix2 y)).trans ((sin_at _ _ _ _ (y 0) (y 1)).trans ?_)
  refine Eq.trans ?_ (congrArg (rows (n := 128) (sinOf (V c main_v15) (V c main_v12))) hy).symm
  exact congrArg (fun a => if (show Fin 128 from y 1).val < 64 then -Ideal.sin a else Ideal.sin a) (angle_blk V c t (y 0) (y 1))

end Cert.KernelIdeal.Own

end
-- ==== Proof.KernelProj.lean ====
/- The values the kernel's second call computes, read at one index at exact real arithmetic. -/
module

public import proofs.«01_k».proof.Proof.Region1
public import Idealize.ShloMosaic.Lib.Pointwise
public import Idealize.ShloMosaic.Lib.Pipeline.ValueKit

@[expose] public section

set_option maxRecDepth 16384
set_option backward.isDefEq.respectTransparency false

noncomputable section

namespace Cert.KernelIdeal.Own

open Cert.KernelIdeal Cert.KernelIdeal.Gen
open Idealize.ShloMosaic

theorem zeros2' : (![0, 0] : Fin 2 → Nat) = fun _ => 0 := by decide

/-! ## The projection and the rotation -/

/-- A tile of the projection: column `j` of tile `k` is column `256 k + j` of the weights. -/
theorem tile_at (x0 : FVec Ideal S256x4608 .fp8e4m3) (x1 : FVec Ideal S256x1 .f32) (x4 : FVec Ideal S4608x8192 .fp8e4m3)
    (x5 : FVec Ideal S1x8192 .f32) (k : Fin 32) (r : Fin 256) (j : Fin 256) :
    tile (F := Ideal) x0 x1 x4 x5 k (ix2 r j)
      = (∑ d : Fin 4608, x0 (ix2 r d) * x4 (ix2 d ⟨256 * k.val + j.val, by omega⟩)) * x1 (ix2 r 0)
          * x5 (ix2 0 ⟨256 * k.val + j.val, by omega⟩) := by
  unfold tile
  rw [View.ld_unit_zero zeros2', View.ld_unit_zero zeros2']
  have e : ∀ (w : FVec Ideal S4608x256 .fp8e4m3) (s : FVec Ideal S1x256 .f32),
      k1_pay9 (F := Ideal) (k1_pay2 (F := Ideal) x0) (k1_pay3 (F := Ideal) x1) w s (ix2 r j)
        = (∑ d : Fin 4608, x0 (ix2 r d) * w (ix2 d j)) * x1 (ix2 r 0) * s (ix2 0 j) := by
    intro w s
    pointwise [k1_pay9, k1_pay2, k1_pay3]
  have ew : ∀ d : Fin 4608, View.ld (Val := Elt Ideal) (e' := .fp8e4m3) x4 (wRect k) (ix2 d j)
      = x4 (ix2 d ⟨256 * k.val + j.val, by omega⟩) := by
    intro d
    refine congrArg x4 (funext fun a => Fin.ext ?_)
    match a with
    | ⟨0, _⟩ => exact show 0 + 1 * d.val = d.val by omega
    | ⟨1, _⟩ => exact show 256 * k.val + 1 * j.val = 256 * k.val + j.val by omega
  have es : View.ld (Val := Elt Ideal) (e' := .f32) x5 (sRect k) (ix2 0 j)
      = x5 (ix2 0 ⟨256 * k.val + j.val, by omega⟩) := by
    refine congrArg x5 (funext fun a => Fin.ext ?_)
    match a with
    | ⟨0, _⟩ => rfl
    | ⟨1, _⟩ => exact show 256 * k.val + 1 * j.val = 256 * k.val + j.val by omega
  refine (e _ _).trans ?_
  simp only [ew, es]

/-- A rotated head at a lane: the rotation by half a head pairs lane `l` with lane `l ± 64`. -/
theorem rotated_at (cos sin t : FVec Ideal S256x128 .f32) (r : Fin 256) (l : Fin 128) :
    rotated (F := Ideal) cos sin t (ix3 r 0 l)
      = t (ix2 r l) * cos (ix2 r l) + t (ix2 r ⟨(l.val + 64) % 128, by omega⟩) * sin (ix2 r l) := by
  pointwise [rotated]
  have e : (l.val + 128 - 64) % 128 = (l.val + 64) % 128 := by omega
  simp only [e]

theorem plain_at (t : FVec Ideal S256x128 .f32) (r : Fin 256) (l : Fin 128) :
    plain (F := Ideal) t (ix3 r 0 l) = t (ix2 r l) := by
  pointwise [plain]

theorem loHead_at (t : FVec Ideal S256x256 .f32) (r : Fin 256) (l : Fin 128) :
    loHead (F := Ideal) t (ix2 r l) = t (ix2 r ⟨l.val, by omega⟩) := by
  pointwise [loHead]

theorem hiHead_at (t : FVec Ideal S256x256 .f32) (r : Fin 256) (l : Fin 128) :
    hiHead (F := Ideal) t (ix2 r l) = t (ix2 r ⟨128 + l.val, by omega⟩) := by
  pointwise [hiHead]

/-! ## The heads at one index -/

/-- One value of the projection, from a row's codes `cd` and scale `sc`, at column `j` of the weights. -/
def colVal (cd : Fin 4608 → EReal) (sc : EReal) (w : FVec Ideal S4608x8192 .fp8e4m3) (ws : FVec Ideal S1x8192 .f32)
    (j : Fin 8192) : EReal :=
  (∑ d, cd d * w (ix2 d j)) * sc * ws (ix2 0 j)

/-- Lane `l` of a head `t` turned by the cosines `c` and the signed sines `s`. -/
def turn (t c s : Fin 128 → EReal) (l : Fin 128) : EReal :=
  t l * c l + t ⟨(l.val + 64) % 128, by omega⟩ * s l

/-- Rows put together from even and odd ones that are both given by `G`. -/
theorem rowsOf_at {M H : ℕ} (hH : H = 2 * M) (lo hi : Fin M → Pairs.Row.Idx → EReal)
    (G : Fin H → Fin 256 → Fin 128 → EReal)
    (hlo : ∀ (n : Fin M) r l, lo n (ix3 r 0 l) = G ⟨2 * n.val, by omega⟩ r l)
    (hhi : ∀ (n : Fin M) r l, hi n (ix3 r 0 l) = G ⟨2 * n.val + 1, by omega⟩ r l)
    (r : Fin 256) (h : Fin H) (l : Fin 128) : Pairs.rowsOf hH lo hi (ix3 r h l) = G h r l := by
  have e : Pairs.inRow (H := H) (ix3 r h l) = ix3 r 0 l := by
    funext a
    match a with
    | ⟨0, _⟩ => rfl
    | ⟨1, _⟩ => rfl
    | ⟨2, _⟩ => rfl
  unfold Pairs.rowsOf
  rw [e]
  split
  · rename_i hp
    refine (hlo _ r l).trans ?_
    congr 1
    exact Fin.ext (show 2 * (h.val / 2) = h.val by have : h.val % 2 = 0 := hp; omega)
  · rename_i hp
    refine (hhi _ r l).trans ?_
    congr 1
    exact Fin.ext (show 2 * (h.val / 2) + 1 = h.val by have : ¬ h.val % 2 = 0 := hp; omega)

variable (x0 : FVec Ideal S256x4608 .fp8e4m3) (x1 : FVec Ideal S256x1 .f32) (x2 x3 : FVec Ideal S256x128 .f32)
  (x4 : FVec Ideal S4608x8192 .fp8e4m3) (x5 : FVec Ideal S1x8192 .f32)

/-- The first and the last 128 columns of a tile. -/
theorem lo_at (k : Fin 32) (r : Fin 256) (l : Fin 128) :
    loHead (F := Ideal) (tile (F := Ideal) x0 x1 x4 x5 k) (ix2 r l)
      = colVal (fun d => x0 (ix2 r d)) (x1 (ix2 r 0)) x4 x5 ⟨256 * k.val + l.val, by omega⟩ := by
  rw [loHead_at, tile_at]
  rfl

theorem hi_at (k : Fin 32) (r : Fin 256) (l : Fin 128) :
    hiHead (F := Ideal) (tile (F := Ideal) x0 x1 x4 x5 k) (ix2 r l)
      = colVal (fun d => x0 (ix2 r d)) (x1 (ix2 r 0)) x4 x5 ⟨256 * k.val + (128 + l.val), by omega⟩ := by
  rw [hiHead_at, tile_at]
  rfl

/-- A rotated head whose lanes are the values of the projection at the columns from `b` on. -/
theorem turned_at (t : FVec Ideal S256x128 .f32) (r : Fin 256) (l : Fin 128) (b : ℕ) (hb : b + 128 ≤ 8192)
    (ht : ∀ k : Fin 128, t (ix2 r k)
      = colVal (fun d => x0 (ix2 r d)) (x1 (ix2 r 0)) x4 x5 ⟨b + k.val, by omega⟩) :
    rotated (F := Ideal) (k1_pay4 (F := Ideal) (View.ld x2 r1_2)) (k1_pay5 (F := Ideal) (View.ld x3 r1_2)) t (ix3 r 0 l)
      = turn (fun k => colVal (fun d => x0 (ix2 r d)) (x1 (ix2 r 0)) x4 x5 ⟨b + k.val, by omega⟩)
          (fun k => x2 (ix2 r k)) (fun k => x3 (ix2 r k)) l := by
  rw [View.ld_unit_zero zeros2', View.ld_unit_zero zeros2']
  have e4 : ∀ k : Fin 128, k1_pay4 (F := Ideal) x2 (ix2 r k) = x2 (ix2 r k) := by
    intro k
    pointwise [k1_pay4]
  have e5 : ∀ k : Fin 128, k1_pay5 (F := Ideal) x3 (ix2 r k) = x3 (ix2 r k) := by
    intro k
    pointwise [k1_pay5]
  rw [rotated_at, ht, ht, e4, e5]
  rfl

theorem col_eq {a b : ℕ} (ha : a < 8192) (hb : b < 8192) (e : a = b) : (⟨a, ha⟩ : Fin 8192) = ⟨b, hb⟩ := Fin.ext e

/-- The queries that the second call leaves in its block of rows. -/
theorem queries_at (r : Fin 256) (h : Fin 32) (l : Fin 128) :
    out1_6 (F := Ideal) x0 x1 x2 x3 x4 x5 (ix3 r h l)
      = turn (fun k => colVal (fun d => x0 (ix2 r d)) (x1 (ix2 r 0)) x4 x5 ⟨h.val * 128 + k.val, by omega⟩)
          (fun k => x2 (ix2 r k)) (fun k => x3 (ix2 r k)) l := by
  unfold out1_6
  refine rowsOf_at (M := 16) rfl _ _ (fun (h : Fin 32) r l =>
    turn (fun k => colVal (fun d => x0 (ix2 r d)) (x1 (ix2 r 0)) x4 x5 ⟨h.val * 128 + k.val, by omega⟩)
      (fun k => x2 (ix2 r k)) (fun k => x3 (ix2 r k)) l) (fun n r l => ?_) (fun n r l => ?_) r h l
  · refine turned_at x0 x1 x2 x3 x4 x5 _ r l (2 * n.val * 128) (by omega) fun k => ?_
    rw [lo_at]
    exact congrArg _ (col_eq _ _ (by dsimp only; omega))
  · refine turned_at x0 x1 x2 x3 x4 x5 _ r l ((2 * n.val + 1) * 128) (by omega) fun k => ?_
    rw [hi_at]
    exact congrArg _ (col_eq _ _ (by dsimp only; omega))

/-- The keys: their heads follow the 32 of the queries. -/
theorem keys_at (r : Fin 256) (h : Fin 16) (l : Fin 128) :
    out1_7 (F := Ideal) x0 x1 x2 x3 x4 x5 (ix3 r h l)
      = turn (fun k => colVal (fun d => x0 (ix2 r d)) (x1 (ix2 r 0)) x4 x5 ⟨4096 + h.val * 128 + k.val, by omega⟩)
          (fun k => x2 (ix2 r k)) (fun k => x3 (ix2 r k)) l := by
  unfold out1_7
  refine rowsOf_at (M := 8) rfl _ _ (fun (h : Fin 16) r l =>
    turn (fun k => colVal (fun d => x0 (ix2 r d)) (x1 (ix2 r 0)) x4 x5 ⟨4096 + h.val * 128 + k.val, by omega⟩)
      (fun k => x2 (ix2 r k)) (fun k => x3 (ix2 r k)) l) (fun n r l => ?_) (fun n r l => ?_) r h l
  · refine turned_at x0 x1 x2 x3 x4 x5 _ r l (4096 + 2 * n.val * 128) (by omega) fun k => ?_
    rw [lo_at]
    exact congrArg _ (col_eq _ _ (by dsimp only; omega))
  · refine turned_at x0 x1 x2 x3 x4 x5 _ r l (4096 + (2 * n.val + 1) * 128) (by omega) fun k => ?_
    rw [hi_at]
    exact congrArg _ (col_eq _ _ (by dsimp only; omega))

/-- The values, not rotated: their heads follow the 16 of the keys. -/
theorem values_at (r : Fin 256) (h : Fin 16) (l : Fin 128) :
    out1_8 (F := Ideal) x0 x1 x2 x3 x4 x5 (ix3 r h l)
      = colVal (fun d => x0 (ix2 r d)) (x1 (ix2 r 0)) x4 x5 ⟨6144 + h.val * 128 + l.val, by omega⟩ := by
  unfold out1_8
  refine rowsOf_at (M := 8) rfl _ _ (fun (h : Fin 16) r l =>
    colVal (fun d => x0 (ix2 r d)) (x1 (ix2 r 0)) x4 x5 ⟨6144 + h.val * 128 + l.val, by omega⟩)
    (fun n r l => ?_) (fun n r l => ?_) r h l
  · rw [plain_at, lo_at]
    exact congrArg _ (col_eq _ _ (by dsimp only; omega))
  · rw [plain_at, hi_at]
    exact congrArg _ (col_eq _ _ (by dsimp only; omega))

end Cert.KernelIdeal.Own

end
-- ==== Proof.Arrays1.lean ====
/- The arrays that the kernel's second call leaves, row by row, from the arrays it is given. -/
module

public import proofs.«01_k».proof.Proof.KernelProj

@[expose] public section

set_option maxRecDepth 16384

noncomputable section

namespace Cert.KernelIdeal.Own

open Cert.KernelIdeal Cert.KernelIdeal.Gen
open Idealize.ShloMosaic Idealize.ShloMosaic.TcCoe
open Idealize.ShloMosaic.Pipeline (Dat)

/-- The blocks of the second call's windows: point `t` of the grid works on the rows from `256 t` on. -/
theorem idx1 : ∀ t : Fin cfg1.N,
    win1_0.index t = ![t.val, 0] ∧ win1_1.index t = ![t.val, 0] ∧ win1_2.index t = ![t.val, 0]
      ∧ win1_3.index t = ![t.val, 0] ∧ win1_4.index t = ![0, 0] ∧ win1_5.index t = ![0, 0]
      ∧ win1_6.index t = ![t.val, 0, 0] ∧ win1_7.index t = ![t.val, 0, 0] ∧ win1_8.index t = ![t.val, 0, 0] :=
  (by decide +kernel : ∀ t : Fin grid1.N, _)

variable (V : (c : Dev nD) → (b : Ref sig .tc) → Buf (Elt Ideal) ((c : Thread nD τ).loc b)) (c : Dev nD)

/-- What the three output arrays hold at a row, a head and a lane, from the arrays that the call finds. -/
def queriesOf (cd : FVec Ideal S4096x4608 .fp8e4m3) (sc : FVec Ideal S4096x1 .f32) (cos sin : FVec Ideal S4096x128 .f32)
    (w : FVec Ideal S4608x8192 .fp8e4m3) (ws : FVec Ideal S1x8192 .f32) (r : Fin 4096) (h : Fin 32) (l : Fin 128) : EReal :=
  turn (fun k => colVal (fun d => cd (ix2 r d)) (sc (ix2 r 0)) w ws ⟨h.val * 128 + k.val, by omega⟩)
    (fun k => cos (ix2 r k)) (fun k => sin (ix2 r k)) l
def keysOf (cd : FVec Ideal S4096x4608 .fp8e4m3) (sc : FVec Ideal S4096x1 .f32) (cos sin : FVec Ideal S4096x128 .f32)
    (w : FVec Ideal S4608x8192 .fp8e4m3) (ws : FVec Ideal S1x8192 .f32) (r : Fin 4096) (h : Fin 16) (l : Fin 128) : EReal :=
  turn (fun k => colVal (fun d => cd (ix2 r d)) (sc (ix2 r 0)) w ws ⟨4096 + h.val * 128 + k.val, by omega⟩)
    (fun k => cos (ix2 r k)) (fun k => sin (ix2 r k)) l
def valuesOf (cd : FVec Ideal S4096x4608 .fp8e4m3) (sc : FVec Ideal S4096x1 .f32)
    (w : FVec Ideal S4608x8192 .fp8e4m3) (ws : FVec Ideal S1x8192 .f32) (r : Fin 4096) (h : Fin 16) (l : Fin 128) : EReal :=
  colVal (fun d => cd (ix2 r d)) (sc (ix2 r 0)) w ws ⟨6144 + h.val * 128 + l.val, by omega⟩

/-- An array of heads from its entries. -/
def heads {H : ℕ} (f : Fin 4096 → Fin H → Fin 128 → EReal) : (⟨3, ![4096, H, 128]⟩ : Shape).Idx → EReal :=
  fun i => f (i 0) (i 1) (i 2)

/-- The row of the arrays that row `r` of the block at point `t` is. -/
def row1 (t : Fin cfg1.N) (r : Fin 256) : Fin 4096 :=
  ⟨t.val * 256 + r.val, by have h : t.val < 16 := lt_of_lt_of_eq t.isLt N_1; omega⟩

/-! ### The input blocks, read in the arrays -/

theorem blk1_0 (t : Fin cfg1.N) (r : Fin 256) (d : Fin 4608) :
    (show FVec Ideal S256x4608 .fp8e4m3 from iblk1 V c 0 t) (ix2 r d) = V c main_v16_0 (ix2 (row1 t r) d) := by
  unfold row1; blk_ext [iblk1, idx1 t]
theorem blk1_1 (t : Fin cfg1.N) (r : Fin 256) :
    (show FVec Ideal S256x1 .f32 from iblk1 V c 1 t) (ix2 r 0) = V c main_v16_1 (ix2 (row1 t r) 0) := by
  unfold row1; blk_ext [iblk1, idx1 t]
theorem blk1_2 (t : Fin cfg1.N) (r : Fin 256) (l : Fin 128) :
    (show FVec Ideal S256x128 .f32 from iblk1 V c 2 t) (ix2 r l) = V c main_v16_2 (ix2 (row1 t r) l) := by
  unfold row1; blk_ext [iblk1, idx1 t]
theorem blk1_3 (t : Fin cfg1.N) (r : Fin 256) (l : Fin 128) :
    (show FVec Ideal S256x128 .f32 from iblk1 V c 3 t) (ix2 r l) = V c main_v16_3 (ix2 (row1 t r) l) := by
  unfold row1; blk_ext [iblk1, idx1 t]
theorem blk1_4 (t : Fin cfg1.N) (d : Fin 4608) (j : Fin 8192) :
    (show FVec Ideal S4608x8192 .fp8e4m3 from iblk1 V c 4 t) (ix2 d j) = V c main_arg2 (ix2 d j) := by
  blk_ext [iblk1, idx1 t]
theorem blk1_5 (t : Fin cfg1.N) (j : Fin 8192) :
    (show FVec Ideal S1x8192 .f32 from iblk1 V c 5 t) (ix2 0 j) = V c main_v17 (ix2 0 j) := by
  blk_ext [iblk1, idx1 t]

/-- One value of the projection over the blocks is the same over the arrays. -/
theorem colVal_blk (t : Fin cfg1.N) (r : Fin 256) (j : Fin 8192) :
    colVal (fun d => (show FVec Ideal S256x4608 .fp8e4m3 from iblk1 V c 0 t) (ix2 r d))
        ((show FVec Ideal S256x1 .f32 from iblk1 V c 1 t) (ix2 r 0))
        (iblk1 V c 4 t) (iblk1 V c 5 t) j
      = colVal (fun d => V c main_v16_0 (ix2 (row1 t r) d)) (V c main_v16_1 (ix2 (row1 t r) 0)) (V c main_arg2) (V c main_v17) j := by
  unfold colVal
  refine congrArg₂ (· * ·) (congrArg₂ (· * ·) (Finset.sum_congr rfl fun d _ => congrArg₂ (· * ·) ?_ ?_) ?_) ?_
  · exact blk1_0 V c t r d
  · exact blk1_4 V c t d j
  · exact blk1_1 V c t r
  · exact blk1_5 V c t j

/-! ### The output arrays -/

/-- The queries. -/
theorem array1_6 : (dat1 V c).arrAt 6 cfg1.N
    = heads (H := 32) (queriesOf (V c main_v16_0) (V c main_v16_1) (V c main_v16_2) (V c main_v16_3) (V c main_arg2) (V c main_v17)) := by
  refine (dat1 V c).arrAt_eq_of_covers 6 _ (by decide +kernel) fun t _ y => ?_
  have hy : ((cfg1.win 6).blk t).view.emb y = ix3 (row1 t (y 0)) (y 1) (y 2) := by
    unfold row1; blk_ext [idx1 t]
  blk_simp
  rw [after1_6]
  refine (congrArg _ (eq_ix3 y)).trans ((queries_at _ _ _ _ _ _ (y 0) (y 1) (y 2)).trans ?_)
  refine Eq.trans ?_ (congrArg (heads (H := 32) (queriesOf (V c main_v16_0) (V c main_v16_1) (V c main_v16_2) (V c main_v16_3) (V c main_arg2) (V c main_v17))) hy).symm
  exact congr (congr (congr (congrArg turn (funext fun k => colVal_blk V c t (y 0) _)) (funext fun k => blk1_2 V c t (y 0) k))
    (funext fun k => blk1_3 V c t (y 0) k)) rfl

/-- The keys. -/
theorem array1_7 : (dat1 V c).arrAt 7 cfg1.N
    = heads (H := 16) (keysOf (V c main_v16_0) (V c main_v16_1) (V c main_v16_2) (V c main_v16_3) (V c main_arg2) (V c main_v17)) := by
  refine (dat1 V c).arrAt_eq_of_covers 7 _ (by decide +kernel) fun t _ y => ?_
  have hy : ((cfg1.win 7).blk t).view.emb y = ix3 (row1 t (y 0)) (y 1) (y 2) := by
    unfold row1; blk_ext [idx1 t]
  blk_simp
  rw [after1_7]
  refine (congrArg _ (eq_ix3 y)).trans ((keys_at _ _ _ _ _ _ (y 0) (y 1) (y 2)).trans ?_)
  refine Eq.trans ?_ (congrArg (heads (H := 16) (keysOf (V c main_v16_0) (V c main_v16_1) (V c main_v16_2) (V c main_v16_3) (V c main_arg2) (V c main_v17))) hy).symm
  exact congr (congr (congr (congrArg turn (funext fun k => colVal_blk V c t (y 0) _)) (funext fun k => blk1_2 V c t (y 0) k))
    (funext fun k => blk1_3 V c t (y 0) k)) rfl

/-- The values. -/
theorem array1_8 : (dat1 V c).arrAt 8 cfg1.N
    = heads (H := 16) (valuesOf (V c main_v16_0) (V c main_v16_1) (V c main_arg2) (V c main_v17)) := by
  refine (dat1 V c).arrAt_eq_of_covers 8 _ (by decide +kernel) fun t _ y => ?_
  have hy : ((cfg1.win 8).blk t).view.emb y = ix3 (row1 t (y 0)) (y 1) (y 2) := by
    unfold row1; blk_ext [idx1 t]
  blk_simp
  rw [after1_8]
  refine (congrArg _ (eq_ix3 y)).trans ((values_at _ _ _ _ _ _ (y 0) (y 1) (y 2)).trans ?_)
  refine Eq.trans ?_ (congrArg (heads (H := 16) (valuesOf (V c main_v16_0) (V c main_v16_1) (V c main_arg2) (V c main_v17))) hy).symm
  exact colVal_blk V c t (y 0) _

end Cert.KernelIdeal.Own

end
-- ==== Proof.HostReads.lean ====
/- What the kernel's host operations compute: the operands of the first call from the arguments, the scales of the
   weights for the second call, and the results from the arrays that the calls leave. -/
module

public import proofs.«01_k».proof.Proof.Run
public import proofs.«01_k».proof.Proof.Spec
public import Idealize.ShloMosaic.Lib.Pointwise
public import Idealize.ShloMosaic.Lib.StableHlo.RunRead

@[expose] public section

set_option maxRecDepth 16384
set_option backward.isDefEq.respectTransparency false

noncomputable section

namespace Cert.KernelIdeal.Own

open Cert.KernelIdeal Cert.KernelIdeal.Gen
open Idealize.ShloMosaic Idealize.ShloMosaic.TcCoe Idealize.SL.Sem

/-! ## The operations, array by array -/

/-- The inverse frequencies of the 64 pairs of lanes, and the row of 128 lanes that holds them twice. -/
def freqV : FVec Ideal S64 .f32 :=
  Host.divf (F := Ideal) (broadcastInDim S64 ![] bcast_S_S64 (constant S_ .f32 0x3F800000#32))
    (Host.powf (broadcastInDim S64 ![] bcast_S_S64 (constant S_ .f32 0x461C4000#32))
      (Host.divf
        (addf (broadcastInDim S64 ![] bcast_S_S64 (constant S_ .f32 0x00000000#32))
          (mulf (broadcastInDim S64 ![] bcast_S_S64 (constant S_ .f32 0x40000000#32))
            (sitofp .f32 (iotaInDim S64 32 0))))
        (broadcastInDim S64 ![] bcast_S_S64 (constant S_ .f32 0x43000000#32))))
def freqRow : FVec Ideal S1x128 .f32 :=
  shapeCast S1x128 (concatenate S128 0 [⟨S64, freqV⟩, ⟨S64, freqV⟩] concatenates_S64_S64_S128_d0) shapeCasts_S128_S1x128

variable (W : Valuation τ sig (Elt Ideal))

theorem host_x : StableHlo.after hostOps0 W (Proc.devRef .tc main_v13)
    = shapeCast (α := EReal) S4096x4608 (W (Proc.devRef .tc main_arg0)) shapeCasts_S2x2048x4608_S4096x4608 := by
  after_reads_simp
  rfl
theorem host_gain : StableHlo.after hostOps0 W (Proc.devRef .tc main_v14)
    = shapeCast (α := EReal) S1x4608 (W (Proc.devRef .tc main_arg1)) shapeCasts_S4608_S1x4608 := by
  after_reads_simp
  rfl
theorem host_pos : StableHlo.after hostOps0 W (Proc.devRef .tc main_v15)
    = shapeCast (α := BitVec 32) S4096x1 (W (Proc.devRef .tc main_arg4)) shapeCasts_S2x2048_S4096x1 := by
  after_reads_simp
  rfl
theorem host_freq : StableHlo.after hostOps0 W (Proc.devRef .tc main_v12) = freqRow := by
  after_reads_simp
  rfl
theorem host_ws : StableHlo.after hostOps1 W (Proc.devRef .tc main_v17)
    = shapeCast (α := EReal) S1x8192 (W (Proc.devRef .tc main_arg3)) shapeCasts_S8192_S1x8192 := by
  after_reads_simp
  rfl
theorem host_q : StableHlo.after hostOps2 W (Proc.devRef .tc main_v19)
    = shapeCast (α := EReal) S2x2048x32x128 (W (Proc.devRef .tc main_v18_0)) shapeCasts_S4096x32x128_S2x2048x32x128 := by
  after_reads_simp
  rfl
theorem host_k : StableHlo.after hostOps2 W (Proc.devRef .tc main_v20)
    = shapeCast (α := EReal) S2x2048x16x128 (W (Proc.devRef .tc main_v18_1)) shapeCasts_S4096x16x128_S2x2048x16x128 := by
  after_reads_simp
  rfl
theorem host_v : StableHlo.after hostOps2 W (Proc.devRef .tc main_v21)
    = shapeCast (α := EReal) S2x2048x16x128 (W (Proc.devRef .tc main_v18_2)) shapeCasts_S4096x16x128_S2x2048x16x128 := by
  after_reads_simp
  rfl
theorem host_codes : StableHlo.after hostOps2 W (Proc.devRef .tc main_v22)
    = shapeCast (α := EReal) S2x2048x4608 (W (Proc.devRef .tc main_v16_0)) shapeCasts_S4096x4608_S2x2048x4608 := by
  after_reads_simp
  rfl
theorem host_scale : StableHlo.after hostOps2 W (Proc.devRef .tc main_v23)
    = shapeCast (α := EReal) S2x2048x1 (W (Proc.devRef .tc main_v16_1)) shapeCasts_S4096x1_S2x2048x1 := by
  after_reads_simp
  rfl

/-! ## The reshapes at one index: row `2048 b + s` of an array is token `s` of batch `b` -/

/-- The row of token `s` of batch `b`. -/
def tok (b : Fin 2) (s : Fin 2048) : Fin 4096 := ⟨b.val * 2048 + s.val, by omega⟩

theorem flat_x (x : FVec Ideal S2x2048x4608 .bf16) (b : Fin 2) (s : Fin 2048) (k : Fin 4608) :
    shapeCast (α := EReal) S4096x4608 x shapeCasts_S2x2048x4608_S4096x4608 (ix2 (tok b s) k) = x (ix3 b s k) := by
  unfold tok; pointwise []
theorem flat_gain (g : FVec Ideal S4608 .f32) (k : Fin 4608) :
    shapeCast (α := EReal) S1x4608 g shapeCasts_S4608_S1x4608 (ix2 0 k) = g (ix1 k) := by
  pointwise []
theorem flat_pos (p : IVec S2x2048 32) (b : Fin 2) (s : Fin 2048) :
    shapeCast (α := BitVec 32) S4096x1 p shapeCasts_S2x2048_S4096x1 (ix2 (tok b s) 0) = p (ix2 b s) := by
  unfold tok; pointwise []
theorem flat_ws (g : FVec Ideal S8192 .f32) (k : Fin 8192) :
    shapeCast (α := EReal) S1x8192 g shapeCasts_S8192_S1x8192 (ix2 0 k) = g (ix1 k) := by
  pointwise []
theorem split_q (a : FVec Ideal S4096x32x128 .bf16) (b : Fin 2) (s : Fin 2048) (h : Fin 32) (l : Fin 128) :
    shapeCast (α := EReal) S2x2048x32x128 a shapeCasts_S4096x32x128_S2x2048x32x128 (ix4 b s h l) = a (ix3 (tok b s) h l) := by
  unfold tok; pointwise []
theorem split_k (a : FVec Ideal S4096x16x128 .bf16) (b : Fin 2) (s : Fin 2048) (h : Fin 16) (l : Fin 128) :
    shapeCast (α := EReal) S2x2048x16x128 a shapeCasts_S4096x16x128_S2x2048x16x128 (ix4 b s h l) = a (ix3 (tok b s) h l) := by
  unfold tok; pointwise []
theorem split_codes (a : FVec Ideal S4096x4608 .fp8e4m3) (b : Fin 2) (s : Fin 2048) (d : Fin 4608) :
    shapeCast (α := EReal) S2x2048x4608 a shapeCasts_S4096x4608_S2x2048x4608 (ix3 b s d) = a (ix2 (tok b s) d) := by
  unfold tok; pointwise []
theorem split_scale (a : FVec Ideal S4096x1 .f32) (b : Fin 2) (s : Fin 2048) :
    shapeCast (α := EReal) S2x2048x1 a shapeCasts_S4096x1_S2x2048x1 (ix3 b s 0) = a (ix2 (tok b s) 0) := by
  unfold tok; pointwise []

/-- The position times the frequency of a lane is the angle of its pair. -/
theorem freqRow_lo (p : BitVec 32) (l : Fin 128) (h : l.val < 64) :
    ((p.toInt : ℝ) : EReal) * freqRow (ix2 0 l) = Spec.angle p ⟨l.val, h⟩ := by
  pointwise [freqRow, freqV, Spec.angle]
  simp only [h, dif_pos]
  rfl
theorem freqRow_hi (p : BitVec 32) (l : Fin 128) (h : ¬ l.val < 64) :
    ((p.toInt : ℝ) : EReal) * freqRow (ix2 0 l) = Spec.angle p ⟨l.val - 64, by omega⟩ := by
  pointwise [freqRow, freqV, Spec.angle]
  simp only [h, dif_neg, not_false_eq_true]
  rfl

end Cert.KernelIdeal.Own

end
-- ==== Proof.KernelValue.lean ====
/- The kernel's five results, at one index, as the shared functions of its arguments. -/
module

public import proofs.«01_k».proof.Proof.Arrays0
public import proofs.«01_k».proof.Proof.Arrays1
public import proofs.«01_k».proof.Proof.HostReads

@[expose] public section

set_option maxRecDepth 16384

noncomputable section

namespace Cert.KernelIdeal.Own

open Cert.KernelIdeal Cert.KernelIdeal.Gen
open Idealize.ShloMosaic Idealize.ShloMosaic.TcCoe Idealize.SL.Sem

/-- Turning a head by the cosines and the signed sines of its pairs' angles is the rotation. -/
theorem turn_rope (t a : Fin 128 → EReal) (p : BitVec 32)
    (hlo : ∀ (l : Fin 128) (h : l.val < 64), a l = Spec.angle p ⟨l.val, h⟩)
    (hhi : ∀ (l : Fin 128) (h : ¬ l.val < 64), a l = Spec.angle p ⟨l.val - 64, by omega⟩) (l : Fin 128) :
    turn t (fun k => Ideal.cos (a k)) (fun k => if k.val < 64 then -Ideal.sin (a k) else Ideal.sin (a k)) l
      = Spec.rope t p l := by
  unfold turn Spec.rope
  dsimp only
  by_cases h : l.val < 64
  · have e : (⟨(l.val + 64) % 128, by omega⟩ : Fin 128) = ⟨l.val + 64, by omega⟩ :=
      Fin.ext (show (l.val + 64) % 128 = l.val + 64 by omega)
    rw [dif_pos h, if_pos h, e, hlo l h, mul_neg, sub_eq_add_neg]
  · have e : (⟨(l.val + 64) % 128, by omega⟩ : Fin 128) = ⟨l.val - 64, by omega⟩ :=
      Fin.ext (show (l.val + 64) % 128 = l.val - 64 by omega)
    rw [dif_neg h, if_neg h, e, hhi l h]

variable (m : (ℓ : Loc nD τ sig) → Buf (Elt Ideal) ℓ) (ρ : Dev nD → PrngReg) (c : Dev nD)

/-! ## The arguments -/

abbrev argX : FVec Ideal S2x2048x4608 .bf16 := m ((c : Thread nD τ).loc main_arg0)
abbrev argG : FVec Ideal S4608 .f32 := m ((c : Thread nD τ).loc main_arg1)
abbrev argW : FVec Ideal S4608x8192 .fp8e4m3 := m ((c : Thread nD τ).loc main_arg2)
abbrev argS : FVec Ideal S8192 .f32 := m ((c : Thread nD τ).loc main_arg3)
abbrev argP : IVec S2x2048 32 := m ((c : Thread nD τ).loc main_arg4)

/-- The row of token `s` of batch `b`, and the gains. -/
abbrev rowX (b : Fin 2) (s : Fin 2048) : Fin 4608 → EReal := fun k => argX m c (ix3 b s k)
abbrev gains : Fin 4608 → EReal := fun k => argG m c (ix1 k)

/-! ## What the first call finds and leaves -/

theorem in_x (b : Fin 2) (s : Fin 2048) : (fun k => V1 m ρ c main_v13 (ix2 (tok b s) k)) = rowX m c b s :=
  funext fun k => (congrFun (host_x (W0 m ρ c)) _).trans (flat_x _ b s k)
theorem in_gain : (fun k => V1 m ρ c main_v14 (ix2 0 k)) = gains m c :=
  funext fun k => (congrFun (host_gain (W0 m ρ c)) _).trans (flat_gain _ k)
theorem in_pos (b : Fin 2) (s : Fin 2048) : V1 m ρ c main_v15 (ix2 (tok b s) 0) = argP m c (ix2 b s) :=
  (congrFun (host_pos (W0 m ρ c)) _).trans (flat_pos _ b s)
theorem in_freq (l : Fin 128) : V1 m ρ c main_v12 (ix2 0 l) = freqRow (ix2 0 l) := congrFun (host_freq (W0 m ρ c)) _

/-- The arrays of codes and scales at an index, said of any inputs. -/
theorem codes_rows (x : FVec Ideal S4096x4608 .bf16) (g : FVec Ideal S1x4608 .f32) (r : Fin 4096) (d : Fin 4608) :
    rows (codesOf x g) (ix2 r d) = Spec.code (fun k => x (ix2 r k)) (fun k => g (ix2 0 k)) d := rfl
theorem scale_rows (x : FVec Ideal S4096x4608 .bf16) (g : FVec Ideal S1x4608 .f32) (r : Fin 4096) :
    rows (n := 1) (scaleOf x g) (ix2 r 0) = Spec.scale (fun k => x (ix2 r k)) (fun k => g (ix2 0 k)) := rfl

theorem codes_arr (b : Fin 2) (s : Fin 2048) (d : Fin 4608) :
    W2 m ρ c (Proc.devRef .tc main_v16_0) (ix2 (tok b s) d) = Spec.code (rowX m c b s) (gains m c) d := by
  refine (congrFun ((W2_arr m ρ c 4).trans (array0_4 (V1 m ρ) c)) _).trans ((codes_rows _ _ (tok b s) d).trans ?_)
  exact congrArg₂ (fun x g => Spec.code x g d) (in_x m ρ c b s) (in_gain m ρ c)
theorem scale_eq : W2 m ρ c (Proc.devRef .tc main_v16_1) = rows (n := 1) (scaleOf (V1 m ρ c main_v13) (V1 m ρ c main_v14)) :=
  (W2_arr m ρ c 5).trans (array0_5 (V1 m ρ) c)
theorem scale_arr (b : Fin 2) (s : Fin 2048) :
    W2 m ρ c (Proc.devRef .tc main_v16_1) (ix2 (tok b s) 0) = Spec.scale (rowX m c b s) (gains m c) := by
  refine (congrFun (scale_eq m ρ c) _).trans ?_
  refine (scale_rows _ _ (tok b s)).trans ?_
  exact congrArg₂ Spec.scale (in_x m ρ c b s) (in_gain m ρ c)

/-- The angle that the first call takes the cosine and the sine of. -/
def ang (b : Fin 2) (s : Fin 2048) (l : Fin 128) : EReal :=
  (((argP m c (ix2 b s)).toInt : ℝ) : EReal) * freqRow (ix2 0 l)

theorem ang_arr (b : Fin 2) (s : Fin 2048) (l : Fin 128) :
    angleOf (V1 m ρ c main_v15) (V1 m ρ c main_v12) (tok b s) l = ang m c b s l :=
  congrArg₂ (· * ·) (congrArg (fun p : BitVec 32 => ((p.toInt : ℝ) : EReal)) (in_pos m ρ c b s))
    (in_freq m ρ c l)
theorem cos_arr (b : Fin 2) (s : Fin 2048) (l : Fin 128) :
    W2 m ρ c (Proc.devRef .tc main_v16_2) (ix2 (tok b s) l) = Ideal.cos (ang m c b s l) := by
  refine (congrFun ((W2_arr m ρ c 6).trans (array0_6 (V1 m ρ) c)) _).trans ?_
  exact congrArg Ideal.cos (ang_arr m ρ c b s l)
theorem sin_arr (b : Fin 2) (s : Fin 2048) (l : Fin 128) :
    W2 m ρ c (Proc.devRef .tc main_v16_3) (ix2 (tok b s) l)
      = if l.val < 64 then -Ideal.sin (ang m c b s l) else Ideal.sin (ang m c b s l) := by
  refine (congrFun ((W2_arr m ρ c 7).trans (array0_7 (V1 m ρ) c)) _).trans ?_
  exact congrArg (fun a => if l.val < 64 then -Ideal.sin a else Ideal.sin a) (ang_arr m ρ c b s l)

/-! ## What the second call finds and leaves -/

theorem in_codes : V3 m ρ c main_v16_0 = W2 m ρ c (Proc.devRef .tc main_v16_0) := W3_of m ρ c _ (by decide)
theorem in_scale : V3 m ρ c main_v16_1 = W2 m ρ c (Proc.devRef .tc main_v16_1) := W3_of m ρ c _ (by decide)
theorem in_cos : V3 m ρ c main_v16_2 = W2 m ρ c (Proc.devRef .tc main_v16_2) := W3_of m ρ c _ (by decide)
theorem in_sin : V3 m ρ c main_v16_3 = W2 m ρ c (Proc.devRef .tc main_v16_3) := W3_of m ρ c _ (by decide)
theorem in_w : V3 m ρ c main_arg2 = argW m c := W3_args m ρ c main_arg2 (by decide)
theorem in_ws (j : Fin 8192) : V3 m ρ c main_v17 (ix2 0 j) = argS m c (ix1 j) :=
  (congrFun (host_ws (W2 m ρ c)) _).trans ((flat_ws _ j).trans
    (congrFun (W2_args m ρ c main_arg3 (by decide)) _))

/-- The projection of a token's row at column `j` of the weights. -/
abbrev projAt (b : Fin 2) (s : Fin 2048) (j : Fin 8192) : EReal :=
  Spec.proj (rowX m c b s) (gains m c) (fun d => argW m c (ix2 d j)) (argS m c (ix1 j))

theorem col_arr (b : Fin 2) (s : Fin 2048) (j : Fin 8192) :
    colVal (fun d => V3 m ρ c main_v16_0 (ix2 (tok b s) d)) (V3 m ρ c main_v16_1 (ix2 (tok b s) 0))
        (V3 m ρ c main_arg2) (V3 m ρ c main_v17) j = projAt m c b s j := by
  refine congrArg₂ (· * ·) (congrArg₂ (· * ·) (Finset.sum_congr rfl fun d _ => congrArg₂ (· * ·) ?_ ?_) ?_) ?_
  · exact (congrFun (in_codes m ρ c) _).trans (codes_arr m ρ c b s d)
  · exact congrFun (in_w m ρ c) _
  · exact (congrFun (in_scale m ρ c) _).trans (scale_arr m ρ c b s)
  · exact in_ws m ρ c j

/-- A head of the projection turned with the call's cosines and sines is that head rotated. -/
theorem turn_arr (b : Fin 2) (s : Fin 2048) (j : Fin 128 → Fin 8192) (l : Fin 128) :
    turn (fun k => colVal (fun d => V3 m ρ c main_v16_0 (ix2 (tok b s) d)) (V3 m ρ c main_v16_1 (ix2 (tok b s) 0))
          (V3 m ρ c main_arg2) (V3 m ρ c main_v17) (j k))
        (fun k => V3 m ρ c main_v16_2 (ix2 (tok b s) k)) (fun k => V3 m ρ c main_v16_3 (ix2 (tok b s) k)) l
      = Spec.rope (fun k => projAt m c b s (j k)) (argP m c (ix2 b s)) l := by
  refine Eq.trans ?_ (turn_rope (fun k => projAt m c b s (j k)) (ang m c b s) (argP m c (ix2 b s))
    (fun l h => freqRow_lo _ l h) (fun l h => freqRow_hi _ l h) l)
  refine congr (congr (congr (congrArg turn ?_) ?_) ?_) rfl
  · exact funext fun k => col_arr m ρ c b s (j k)
  · exact funext fun k => (congrFun (in_cos m ρ c) _).trans (cos_arr m ρ c b s k)
  · exact funext fun k => (congrFun (in_sin m ρ c) _).trans (sin_arr m ρ c b s k)

/-! ## The results -/

/-- The queries. -/
theorem res_q (b : Fin 2) (s : Fin 2048) (h : Fin 32) (l : Fin 128) :
    W5 m ρ c (Proc.devRef .tc main_v19) (ix4 b s h l)
      = Spec.rope (fun k => projAt m c b s ⟨h.val * 128 + k.val, by omega⟩) (argP m c (ix2 b s)) l := by
  refine (congrFun (host_q (W4 m ρ c)) _).trans ((split_q _ b s h l).trans ?_)
  refine (congrFun ((W4_arr m ρ c 6).trans (array1_6 (V3 m ρ) c)) _).trans ?_
  exact turn_arr m ρ c b s (fun k => ⟨h.val * 128 + k.val, by omega⟩) l

/-- The keys. -/
theorem res_k (b : Fin 2) (s : Fin 2048) (h : Fin 16) (l : Fin 128) :
    W5 m ρ c (Proc.devRef .tc main_v20) (ix4 b s h l)
      = Spec.rope (fun k => projAt m c b s ⟨4096 + (h.val * 128 + k.val), by omega⟩) (argP m c (ix2 b s)) l := by
  refine (congrFun (host_k (W4 m ρ c)) _).trans ((split_k _ b s h l).trans ?_)
  refine (congrFun ((W4_arr m ρ c 7).trans (array1_7 (V3 m ρ) c)) _).trans ?_
  refine (turn_arr m ρ c b s (fun k => ⟨4096 + h.val * 128 + k.val, by omega⟩) l).trans ?_
  simp only [Nat.add_assoc]

/-- The values. -/
theorem res_v (b : Fin 2) (s : Fin 2048) (h : Fin 16) (l : Fin 128) :
    W5 m ρ c (Proc.devRef .tc main_v21) (ix4 b s h l)
      = projAt m c b s ⟨6144 + (h.val * 128 + l.val), by omega⟩ := by
  refine (congrFun (host_v (W4 m ρ c)) _).trans ((split_k _ b s h l).trans ?_)
  refine (congrFun ((W4_arr m ρ c 8).trans (array1_8 (V3 m ρ) c)) _).trans ?_
  refine (col_arr m ρ c b s ⟨6144 + h.val * 128 + l.val, by omega⟩).trans ?_
  simp only [Nat.add_assoc]

/-- The codes and the scales: the second call only reads them. -/
theorem res_codes (b : Fin 2) (s : Fin 2048) (d : Fin 4608) :
    W5 m ρ c (Proc.devRef .tc main_v22) (ix3 b s d) = Spec.code (rowX m c b s) (gains m c) d := by
  refine (congrFun (host_codes (W4 m ρ c)) _).trans ((split_codes _ b s d).trans ?_)
  refine (congrFun ((W4_of m ρ c main_v16_0 (by decide)).trans (in_codes m ρ c)) _).trans ?_
  exact codes_arr m ρ c b s d
theorem res_scale (b : Fin 2) (s : Fin 2048) :
    W5 m ρ c (Proc.devRef .tc main_v23) (ix3 b s 0) = Spec.scale (rowX m c b s) (gains m c) := by
  refine (congrFun (host_scale (W4 m ρ c)) _).trans ((split_scale _ b s).trans ?_)
  refine (congrFun ((W4_of m ρ c main_v16_1 (by decide)).trans (in_scale m ρ c)) _).trans ?_
  exact scale_arr m ρ c b s

end Cert.KernelIdeal.Own

end
-- ==== Proof.RefTerms.lean ====
/- The reference as array operations, one named step after another, and the results of its run as these steps
   of its arguments. The steps are the operations of the printed program, in its order, at any kind of float. -/
module

public import proofs.«01_k».proof.Proof.Gen.ReferenceIdeal.Frame
public import Idealize.ShloMosaic.Lib.Pipeline.ValueKit
public import Idealize.ShloMosaic.Lib.StableHlo.RunRead

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

variable {F : FTy → Type} [FloatOps F]

/-! ## The steps -/

/-- The normalised activations `h`. -/
def refH (x : FVec F S2x2048x4608 .bf16) (g : FVec F S4608 .f32) : FVec F S2x2048x4608 .f32 :=
  mulf
    (mulf (extf .f32 x bitsLt_bf16_f32)
      (broadcastInDim S2x2048x4608 ![0, 1, 2] bcast_S2x2048x1_S2x2048x4608_0_1_2
        (Host.rsqrt (addf
          (Host.divf
            (broadcastInDim S2x2048x1 ![0, 1] bcast_S2x2048_S2x2048x1_0_1
              (Host.reduceAdd (mulf (extf .f32 x bitsLt_bf16_f32) (extf .f32 x bitsLt_bf16_f32))
                (constant S_ .f32 0x00000000#32) reducesTo_S2x2048x4608_S2x2048_d2 h_S_))
            (broadcastInDim S2x2048x1 ![] bcast_S_S2x2048x1 (constant S_ .f32 0x45900000#32)))
          (broadcastInDim S2x2048x1 ![] bcast_S_S2x2048x1 (constant S_ .f32 0x358637BD#32))))))
    (broadcastInDim S2x2048x4608 ![0, 1, 2] bcast_S1x1x4608_S2x2048x4608_0_1_2
      (broadcastInDim S1x1x4608 ![2] bcast_S4608_S1x1x4608_2 g))

/-- The largest magnitude of each row of `h`. -/
def refA (h : FVec F S2x2048x4608 .f32) : FVec F S2x2048x1 .f32 :=
  broadcastInDim S2x2048x1 ![0, 1] bcast_S2x2048_S2x2048x1_0_1
    (Host.reduce FloatOps.maximumf (Host.absf h) (constant S_ .f32 0xFF800000#32)
      reducesTo_S2x2048x4608_S2x2048_d2 h_S_)

/-- That magnitude over 448. -/
def refY (a : FVec F S2x2048x1 .f32) : FVec F S2x2048x1 .f32 :=
  mulf a (broadcastInDim S2x2048x1 ![] bcast_S_S2x2048x1 (constant S_ .f32 0x3B124925#32))

/-- How many of the 254 normal powers of two are at most `y`. -/
def refN (y : FVec F S2x2048x1 .f32) : IVec S2x2048x1 32 :=
  broadcastInDim S2x2048x1 ![0, 1] bcast_S2x2048_S2x2048x1_0_1
    (Host.reduce IntOp.addi
      (extui 32
        (cmpf .oge
          (broadcastInDim S2x2048x254 ![0, 1, 2] bcast_S2x2048x1_S2x2048x254_0_1_2 y)
          (broadcastInDim S2x2048x254 ![0, 1, 2] bcast_S1x1x254_S2x2048x254_0_1_2
            (broadcastInDim S1x1x254 ![2] bcast_S254_S1x1x254_2
              (Host.powf (broadcastInDim S254 ![] bcast_S_S254 (constant S_ .f32 0x40000000#32))
                (subf (sitofp .f32 (iotaInDim S254 32 0))
                  (broadcastInDim S254 ![] bcast_S_S254 (constant S_ .f32 0x42FC0000#32)))))))
        natLt_1_32)
      (constantI S_ 32 0#32) reducesTo_S2x2048x254_S2x2048_d2 h_S_)

/-- The exponent of the row's scale. -/
def refE (a : FVec F S2x2048x1 .f32) : IVec S2x2048x1 32 :=
  select
    (cmpf .oeq a (broadcastInDim S2x2048x1 ![] bcast_S_S2x2048x1 (constant S_ .f32 0x00000000#32)))
    (broadcastInDim S2x2048x1 ![] bcast_S_S2x2048x1 (constantI S_ 32 0#32))
    (select
      (ori
        (cmpi .eq (refN (refY a)) (broadcastInDim S2x2048x1 ![] bcast_S_S2x2048x1 (constantI S_ 32 0#32)))
        (cmpf .oeq (refY a) (broadcastInDim S2x2048x1 ![] bcast_S_S2x2048x1 (constant S_ .f32 0x7F800000#32))))
      (broadcastInDim S2x2048x1 ![] bcast_S_S2x2048x1 (constantI S_ 32 0#32))
      (subi (refN (refY a)) (broadcastInDim S2x2048x1 ![] bcast_S_S2x2048x1 (constantI S_ 32 126#32))))

/-- Two to the power `e`: infinite above 127 and zero below -126. -/
def refPow (e : IVec S2x2048x1 32) : FVec F S2x2048x1 .f32 :=
  select
    (cmpi .sgt e (broadcastInDim S2x2048x1 ![] bcast_S_S2x2048x1 (constantI S_ 32 127#32)))
    (broadcastInDim S2x2048x1 ![] bcast_S_S2x2048x1 (constant S_ .f32 0x7F800000#32))
    (select
      (cmpi .slt e (broadcastInDim S2x2048x1 ![] bcast_S_S2x2048x1 (constantI S_ 32 4294967170#32)))
      (broadcastInDim S2x2048x1 ![] bcast_S_S2x2048x1 (constant S_ .f32 0x00000000#32))
      (Host.powf (broadcastInDim S2x2048x1 ![] bcast_S_S2x2048x1 (constant S_ .f32 0x40000000#32))
        (sitofp .f32 e)))

/-- `h` times the power of two `p`, clipped to the fp8 range. -/
def refScaled (h : FVec F S2x2048x4608 .f32) (p : FVec F S2x2048x1 .f32) : FVec F S2x2048x4608 .f32 :=
  minimumf (broadcastInDim S2x2048x4608 ![] bcast_S_S2x2048x4608 (constant S_ .f32 0x43E00000#32))
    (maximumf (broadcastInDim S2x2048x4608 ![] bcast_S_S2x2048x4608 (constant S_ .f32 0xC3E00000#32))
      (mulf h (broadcastInDim S2x2048x4608 ![0, 1, 2] bcast_S2x2048x1_S2x2048x4608_0_1_2 p)))

/-- The projection times the row's scale and the column's. -/
def refQkv (acc : FVec F S4096x8192 .f32) (p : FVec F S2x2048x1 .f32) (s : FVec F S8192 .f32) :
    FVec F S2x2048x8192 .f32 :=
  mulf
    (mulf (shapeCast S2x2048x8192 acc shapeCasts_S4096x8192_S2x2048x8192)
      (broadcastInDim S2x2048x8192 ![0, 1, 2] bcast_S2x2048x1_S2x2048x8192_0_1_2 p))
    (broadcastInDim S2x2048x8192 ![0, 1, 2] bcast_S1x1x8192_S2x2048x8192_0_1_2
      (broadcastInDim S1x1x8192 ![2] bcast_S8192_S1x1x8192_2 s))

/-- The inverse frequencies. -/
def refFreq : FVec F S64 .f32 :=
  Host.divf (broadcastInDim S64 ![] bcast_S_S64 (constant S_ .f32 0x3F800000#32))
    (Host.powf (broadcastInDim S64 ![] bcast_S_S64 (constant S_ .f32 0x461C4000#32))
      (Host.divf
        (addf (broadcastInDim S64 ![] bcast_S_S64 (constant S_ .f32 0x00000000#32))
          (mulf (broadcastInDim S64 ![] bcast_S_S64 (constant S_ .f32 0x40000000#32))
            (sitofp .f32 (iotaInDim S64 32 0))))
        (broadcastInDim S64 ![] bcast_S_S64 (constant S_ .f32 0x43000000#32))))

/-- The angles of rotation. -/
def refAngle (pos : IVec S2x2048 32) : FVec F S2x2048x64 .f32 :=
  mulf
    (broadcastInDim S2x2048x64 ![0, 1, 2] bcast_S2x2048x1_S2x2048x64_0_1_2
      (broadcastInDim S2x2048x1 ![0, 1] bcast_S2x2048_S2x2048x1_0_1 (sitofp .f32 pos)))
    (broadcastInDim S2x2048x64 ![0, 1, 2] bcast_S1x1x64_S2x2048x64_0_1_2
      (broadcastInDim S1x1x64 ![2] bcast_S64_S1x1x64_2 refFreq))

/-- The queries: the first 32 heads, rotated. -/
def refQ (t : FVec F S2x2048x8192 .f32) (ang : FVec F S2x2048x64 .f32) : FVec F S2x2048x32x128 .bf16 :=
  let q := shapeCast S2x2048x32x128
    (extractStridedSlice S2x2048x4096 ![0, 0, 0] t slices_S2x2048x8192_S2x2048x4096_0_0_0)
    shapeCasts_S2x2048x4096_S2x2048x32x128
  let t1 := extractStridedSlice S2x2048x32x64 ![0, 0, 0, 0] q slices_S2x2048x32x128_S2x2048x32x64_0_0_0_0
  let t2 := extractStridedSlice S2x2048x32x64 ![0, 0, 0, 64] q slices_S2x2048x32x128_S2x2048x32x64_0_0_0_64
  let cos := broadcastInDim S2x2048x32x64 ![0, 1, 2, 3] bcast_S2x2048x1x64_S2x2048x32x64_0_1_2_3
    (broadcastInDim S2x2048x1x64 ![0, 1, 3] bcast_S2x2048x64_S2x2048x1x64_0_1_3 (Host.cos ang))
  let sin := broadcastInDim S2x2048x32x64 ![0, 1, 2, 3] bcast_S2x2048x1x64_S2x2048x32x64_0_1_2_3
    (broadcastInDim S2x2048x1x64 ![0, 1, 3] bcast_S2x2048x64_S2x2048x1x64_0_1_3 (Host.sin ang))
  truncf .bf16
    (concatenate S2x2048x32x128 3
      [⟨S2x2048x32x64, subf (mulf t1 cos) (mulf t2 sin)⟩, ⟨S2x2048x32x64, addf (mulf t2 cos) (mulf t1 sin)⟩]
      concatenates_S2x2048x32x64_S2x2048x32x64_S2x2048x32x128_d3)
    bitsLt_bf16_f32

/-- The keys: the next 16 heads, rotated. -/
def refK (t : FVec F S2x2048x8192 .f32) (ang : FVec F S2x2048x64 .f32) : FVec F S2x2048x16x128 .bf16 :=
  let k := shapeCast S2x2048x16x128
    (extractStridedSlice S2x2048x2048 ![0, 0, 4096] t slices_S2x2048x8192_S2x2048x2048_0_0_4096)
    shapeCasts_S2x2048x2048_S2x2048x16x128
  let t1 := extractStridedSlice S2x2048x16x64 ![0, 0, 0, 0] k slices_S2x2048x16x128_S2x2048x16x64_0_0_0_0
  let t2 := extractStridedSlice S2x2048x16x64 ![0, 0, 0, 64] k slices_S2x2048x16x128_S2x2048x16x64_0_0_0_64
  let cos := broadcastInDim S2x2048x16x64 ![0, 1, 2, 3] bcast_S2x2048x1x64_S2x2048x16x64_0_1_2_3
    (broadcastInDim S2x2048x1x64 ![0, 1, 3] bcast_S2x2048x64_S2x2048x1x64_0_1_3 (Host.cos ang))
  let sin := broadcastInDim S2x2048x16x64 ![0, 1, 2, 3] bcast_S2x2048x1x64_S2x2048x16x64_0_1_2_3
    (broadcastInDim S2x2048x1x64 ![0, 1, 3] bcast_S2x2048x64_S2x2048x1x64_0_1_3 (Host.sin ang))
  truncf .bf16
    (concatenate S2x2048x16x128 3
      [⟨S2x2048x16x64, subf (mulf t1 cos) (mulf t2 sin)⟩, ⟨S2x2048x16x64, addf (mulf t2 cos) (mulf t1 sin)⟩]
      concatenates_S2x2048x16x64_S2x2048x16x64_S2x2048x16x128_d3)
    bitsLt_bf16_f32

/-- The values: the last 16 heads. -/
def refV (t : FVec F S2x2048x8192 .f32) : FVec F S2x2048x16x128 .bf16 :=
  truncf .bf16
    (shapeCast S2x2048x16x128
      (extractStridedSlice S2x2048x2048 ![0, 0, 6144] t slices_S2x2048x8192_S2x2048x2048_0_0_6144)
      shapeCasts_S2x2048x2048_S2x2048x16x128)
    bitsLt_bf16_f32

/-- The exponent of each row's scale, from the arguments. -/
def refExp (x : FVec F S2x2048x4608 .bf16) (g : FVec F S4608 .f32) : IVec S2x2048x1 32 := refE (refA (refH x g))

/-- The clipped activations as one matrix, from the arguments: what the projection is given. -/
def refClipped (x : FVec F S2x2048x4608 .bf16) (g : FVec F S4608 .f32) : FVec F S4096x4608 .f32 :=
  shapeCast S4096x4608 (refScaled (refH x g) (refPow (negi (refExp x g)))) shapeCasts_S2x2048x4608_S4096x4608

/-! ## What the operations before and after the projection leave -/

section Host
variable (m : (ℓ : Loc nD τ sig) → Buf (Elt F) ℓ)

theorem V_scale (c : Dev nD) :
    V m c main_v50 = refPow (refExp (m ((c : Thread nD τ).loc main_arg0)) (m ((c : Thread nD τ).loc main_arg1))) := by
  simp only [V, V0, List.flatten_cons, List.flatten_nil, List.append_nil]
  after_reads_simp
  rfl

theorem V_clipped (c : Dev nD) :
    V m c main_v64 = refClipped (m ((c : Thread nD τ).loc main_arg0)) (m ((c : Thread nD τ).loc main_arg1)) := by
  simp only [V, V0, List.flatten_cons, List.flatten_nil, List.append_nil]
  after_reads_simp
  rfl

variable (W : Valuation τ sig (Elt F))

theorem after_q : StableHlo.after hostOps1 W (Proc.devRef .tc main_v112)
    = refQ (refQkv (W (Proc.devRef .tc main_v65_1)) (W (Proc.devRef .tc main_v50)) (W (Proc.devRef .tc main_arg3)))
        (refAngle (W (Proc.devRef .tc main_arg4))) := by
  after_reads_simp
  rfl

theorem after_k : StableHlo.after hostOps1 W (Proc.devRef .tc main_v126)
    = refK (refQkv (W (Proc.devRef .tc main_v65_1)) (W (Proc.devRef .tc main_v50)) (W (Proc.devRef .tc main_arg3)))
        (refAngle (W (Proc.devRef .tc main_arg4))) := by
  after_reads_simp
  rfl

theorem after_v : StableHlo.after hostOps1 W (Proc.devRef .tc main_v127)
    = refV (refQkv (W (Proc.devRef .tc main_v65_1)) (W (Proc.devRef .tc main_v50)) (W (Proc.devRef .tc main_arg3))) := by
  after_reads_simp
  rfl

theorem after_codes : StableHlo.after hostOps1 W (Proc.devRef .tc main_v128)
    = shapeCast S2x2048x4608 (W (Proc.devRef .tc main_v65_0)) shapeCasts_S4096x4608_S2x2048x4608 := by
  after_reads_simp
  try rfl

theorem after_scale : StableHlo.after hostOps1 W (Proc.devRef .tc main_v50) = W (Proc.devRef .tc main_v50) := by
  after_reads_simp

end Host

end Cert.ReferenceIdeal.Own

end
-- ==== Proof.RefPoint.lean ====
/- The reference's steps read at one index, at exact real arithmetic: each is the shared function of Spec.lean. -/
module

public import proofs.«01_k».proof.Proof.RefTerms
public import proofs.«01_k».proof.Proof.Spec
public import Idealize.ShloMosaic.Lib.Pointwise

@[expose] public section

set_option maxRecDepth 16384
set_option backward.isDefEq.respectTransparency false

noncomputable section

namespace Cert.ReferenceIdeal.Own

open Cert.ReferenceIdeal Cert.ReferenceIdeal.Gen
open Idealize.ShloMosaic

/-! ## The activations and their scale -/

theorem refH_at (x : FVec Ideal S2x2048x4608 .bf16) (g : FVec Ideal S4608 .f32) (b : Fin 2) (s : Fin 2048)
    (d : Fin 4608) :
    refH x g (ix3 b s d) = Spec.act (fun k => x (ix3 b s k)) (fun k => g (ix1 k)) d := by
  pointwise [refH, Spec.act]

theorem refA_at (h : FVec Ideal S2x2048x4608 .f32) (b : Fin 2) (s : Fin 2048) :
    refA h (ix3 b s 0)
      = Finset.univ.fold max (Ideal.ofBits .f32 0xFF800000#32) fun d => Spec.mag (h (ix3 b s d)) := by
  pointwise [refA, Spec.mag]

theorem refY_at (a : FVec Ideal S2x2048x1 .f32) (b : Fin 2) (s : Fin 2048) :
    refY a (ix3 b s 0) = a (ix3 b s 0) * Ideal.ofBits .f32 0x3B124925#32 := by
  pointwise [refY]

/-- The reduction of the comparisons is the count of the powers at most `y`. -/
theorem refN_at (y : FVec Ideal S2x2048x1 .f32) (b : Fin 2) (s : Fin 2048) :
    refN y (ix3 b s 0) = Spec.powCount (y (ix3 b s 0)) := by
  refine Eq.trans ?_ (IndicatorCount.fold_addi_setWidth_eq_card
    (fun k : Fin 254 => Ideal.cmp .oge (y (ix3 b s 0)) (Spec.normalPow k)) Finset.univ)
  pointwise [refN, Spec.normalPow]
  rfl

theorem refE_at (a : FVec Ideal S2x2048x1 .f32) (b : Fin 2) (s : Fin 2048) :
    refE a (ix3 b s 0) = Spec.scaleExp (a (ix3 b s 0)) := by
  have e : refE a (ix3 b s 0)
      = Scalar.select (Ideal.cmp .oeq (a (ix3 b s 0)) (Ideal.ofBits .f32 0x00000000#32)) 0#32
          (Scalar.select
            (IntOp.ori (IntOp.cmpi .eq (refN (refY a) (ix3 b s 0)) 0#32)
              (Ideal.cmp .oeq (refY a (ix3 b s 0)) (Ideal.ofBits .f32 0x7F800000#32)))
            0#32 (IntOp.subi (refN (refY a) (ix3 b s 0)) 126#32)) := rfl
  rw [e, refN_at, refY_at]
  rfl

theorem refPow_at (e : IVec S2x2048x1 32) (b : Fin 2) (s : Fin 2048) :
    refPow (F := Ideal) e (ix3 b s 0) = Spec.pow2 (e (ix3 b s 0)) := rfl

theorem refScaled_at (h : FVec Ideal S2x2048x4608 .f32) (p : FVec Ideal S2x2048x1 .f32) (b : Fin 2) (s : Fin 2048)
    (d : Fin 4608) :
    refScaled h p (ix3 b s d)
      = min (Ideal.ofBits .f32 0x43E00000#32)
          (max (Ideal.ofBits .f32 0xC3E00000#32) (h (ix3 b s d) * p (ix3 b s 0))) := by
  pointwise [refScaled]

theorem refExp_at (x : FVec Ideal S2x2048x4608 .bf16) (g : FVec Ideal S4608 .f32) (b : Fin 2) (s : Fin 2048) :
    refExp x g (ix3 b s 0)
      = Spec.scaleExp (Spec.amax (fun k => x (ix3 b s k)) (fun k => g (ix1 k))) := by
  unfold refExp Spec.amax
  simp only [refE_at, refA_at, refH_at]

/-- The reference's scale of a row. -/
theorem refScale_at (x : FVec Ideal S2x2048x4608 .bf16) (g : FVec Ideal S4608 .f32) (b : Fin 2) (s : Fin 2048) :
    refPow (F := Ideal) (refExp x g) (ix3 b s 0)
      = Spec.scale (fun k => x (ix3 b s k)) (fun k => g (ix1 k)) := by
  rw [refPow_at, refExp_at]
  rfl

/-- The reference's clipped activation at a row of the matrix. -/
theorem refClipped_at (x : FVec Ideal S2x2048x4608 .bf16) (g : FVec Ideal S4608 .f32) (b : Fin 2) (s : Fin 2048)
    (d : Fin 4608) :
    refClipped x g (ix2 ⟨b.val * 2048 + s.val, by omega⟩ d)
      = Spec.code (fun k => x (ix3 b s k)) (fun k => g (ix1 k)) d := by
  have e : refClipped x g (ix2 ⟨b.val * 2048 + s.val, by omega⟩ d)
      = refScaled (refH x g) (refPow (negi (refExp x g))) (ix3 b s d) := by
    pointwise [refClipped]
  have n : negi (refExp x g) (ix3 b s 0) = -(refExp x g (ix3 b s 0)) := rfl
  rw [e, refScaled_at, refPow_at, n, refExp_at, refH_at]
  rfl

/-! ## The projection and the rotation -/

theorem refQkv_at (acc : FVec Ideal S4096x8192 .f32) (p : FVec Ideal S2x2048x1 .f32) (s : FVec Ideal S8192 .f32)
    (b : Fin 2) (i : Fin 2048) (j : Fin 8192) :
    refQkv acc p s (ix3 b i j)
      = acc (ix2 ⟨b.val * 2048 + i.val, by omega⟩ j) * p (ix3 b i 0) * s (ix1 j) := by
  pointwise [refQkv]

theorem refAngle_at (pos : IVec S2x2048 32) (b : Fin 2) (i : Fin 2048) (j : Fin 64) :
    refAngle (F := Ideal) pos (ix3 b i j) = Spec.angle (pos (ix2 b i)) j := by
  pointwise [refAngle, refFreq, Spec.angle]
  try rfl

theorem refQ_at (t : FVec Ideal S2x2048x8192 .f32) (pos : IVec S2x2048 32) (b : Fin 2) (i : Fin 2048) (h : Fin 32)
    (l : Fin 128) :
    refQ t (refAngle (F := Ideal) pos) (ix4 b i h l)
      = Spec.rope (fun k => t (ix3 b i ⟨h.val * 128 + k.val, by omega⟩)) (pos (ix2 b i)) l := by
  pointwise [refQ]
  unfold Spec.rope
  simp only [refAngle_at]
  split
  · simp only [Nat.add_comm 64]
  · rename_i hl
    have e : 64 + (l.val - 64) = l.val := by omega
    simp only [e]

theorem refK_at (t : FVec Ideal S2x2048x8192 .f32) (pos : IVec S2x2048 32) (b : Fin 2) (i : Fin 2048) (h : Fin 16)
    (l : Fin 128) :
    refK t (refAngle (F := Ideal) pos) (ix4 b i h l)
      = Spec.rope (fun k => t (ix3 b i ⟨4096 + (h.val * 128 + k.val), by omega⟩)) (pos (ix2 b i)) l := by
  pointwise [refK]
  unfold Spec.rope
  simp only [refAngle_at]
  split
  · simp only [Nat.add_comm 64]
  · rename_i hl
    have e : 64 + (l.val - 64) = l.val := by omega
    simp only [e]

theorem refV_at (t : FVec Ideal S2x2048x8192 .f32) (b : Fin 2) (i : Fin 2048) (h : Fin 16) (l : Fin 128) :
    refV t (ix4 b i h l) = t (ix3 b i ⟨6144 + (h.val * 128 + l.val), by omega⟩) := by
  pointwise [refV]

end Cert.ReferenceIdeal.Own

end
-- ==== Proof.RefValue.lean ====
/- The reference's five results, at one index, as the shared functions of its arguments. -/
module

public import proofs.«01_k».proof.Proof.RefPoint

@[expose] public section

set_option maxRecDepth 16384
set_option backward.isDefEq.respectTransparency false

noncomputable section

namespace Cert.ReferenceIdeal.Own

open Cert.ReferenceIdeal Cert.ReferenceIdeal.Gen
open Idealize.ShloMosaic Idealize.ShloMosaic.TcCoe Idealize.SL.Sem

theorem idx : ∀ t : Fin cfg0.N,
    win0_0.index t = ![0, 0] ∧ win0_1.index t = ![0, 0] ∧ win0_2.index t = ![0, 0] ∧ win0_3.index t = ![0, 0] :=
  (by decide +kernel : ∀ t : Fin grid0.N, _)

variable (m : (ℓ : Loc nD τ sig) → Buf (Elt Ideal) ℓ) (ρ : Dev nD → PrngReg) (c : Dev nD)

/-! ## The projection's two arrays -/

theorem array2 : (dats m 0 c).arrAt 2 (cfgs 0).N = k0_pay1 (F := Ideal) (V m c main_v64) := by
  refine (dats m 0 c).arrAt_eq_of_after_last 2 t0_0 (by decide +kernel) _ fun j => ?_
  blk_simp
  rw [after0_2]
  frame_out
  blk_point [iblk, idx t0_0]

theorem array3 : (dats m 0 c).arrAt 3 (cfgs 0).N = k0_pay2 (F := Ideal) (V m c main_v64) (V m c main_arg2) := by
  refine (dats m 0 c).arrAt_eq_of_after_last 3 t0_0 (by decide +kernel) _ fun j => ?_
  blk_simp
  rw [after0_3]
  frame_out
  blk_point [iblk, idx t0_0]

/-- The projection stores its first operand as it is. -/
theorem pay1_at (x : FVec Ideal S4096x4608 .f32) (i : Fin 4096) (d : Fin 4608) :
    k0_pay1 (F := Ideal) x (ix2 i d) = x (ix2 i d) := by
  pointwise [k0_pay1]

/-- The projection at a row and a column: their inner product. -/
theorem pay2_at (x : FVec Ideal S4096x4608 .f32) (w : FVec Ideal S4608x8192 .fp8e4m3) (i : Fin 4096) (j : Fin 8192) :
    k0_pay2 (F := Ideal) x w (ix2 i j) = ∑ d : Fin 4608, x (ix2 i d) * w (ix2 d j) := by
  pointwise [k0_pay2, k0_pay1]

/-! ## The buffers when the projection has ended -/

/-- The core's buffers between the projection and the operations after it. -/
abbrev Wp : Valuation τ sig (Elt Ideal) :=
  Pipeline.withArrays (cfgs 0).spec c (V0 m c) fun w => (dats m 0 c).arrAt w (cfgs 0).N

theorem arr_inj : Function.Injective (Pipeline.arrRef (cfgs 0).spec) := (by decide : Function.Injective (Pipeline.arrRef spec0))

theorem Wp_codes : Wp m c (Proc.devRef .tc main_v65_0) = k0_pay1 (F := Ideal) (V m c main_v64) :=
  (Pipeline.withArrays_arr (cfgs 0).spec arr_inj c (V0 m c) _ 2).trans (array2 m c)
theorem Wp_acc : Wp m c (Proc.devRef .tc main_v65_1) = k0_pay2 (F := Ideal) (V m c main_v64) (V m c main_arg2) :=
  (Pipeline.withArrays_arr (cfgs 0).spec arr_inj c (V0 m c) _ 3).trans (array3 m c)
theorem Wp_of (b : Ref sig .tc) (hb : ∀ w, Pipeline.arrRef spec0 w ≠ b) : Wp m c (Proc.devRef .tc b) = V m c b :=
  Pipeline.withArrays_of_ne (cfgs 0).spec c (V0 m c) _ b hb

/-! ## The arguments -/

abbrev argX : FVec Ideal S2x2048x4608 .bf16 := m ((c : Thread nD τ).loc main_arg0)
abbrev argG : FVec Ideal S4608 .f32 := m ((c : Thread nD τ).loc main_arg1)
abbrev argW : FVec Ideal S4608x8192 .fp8e4m3 := m ((c : Thread nD τ).loc main_arg2)
abbrev argS : FVec Ideal S8192 .f32 := m ((c : Thread nD τ).loc main_arg3)
abbrev argP : IVec S2x2048 32 := m ((c : Thread nD τ).loc main_arg4)
/-- The row of token `s` of batch `b`, and the gains. -/
abbrev rowX (b : Fin 2) (s : Fin 2048) : Fin 4608 → EReal := fun k => argX m c (ix3 b s k)
abbrev gains : Fin 4608 → EReal := fun k => argG m c (ix1 k)

theorem Wp_scale : Wp m c (Proc.devRef .tc main_v50) = refPow (F := Ideal) (refExp (argX m c) (argG m c)) :=
  (Wp_of m c main_v50 (by decide)).trans (V_scale m c)
theorem Wp_ws : Wp m c (Proc.devRef .tc main_arg3) = argS m c := (Wp_of m c main_arg3 (by decide)).trans (V_main_arg3 m c)
theorem Wp_pos : Wp m c (Proc.devRef .tc main_arg4) = argP m c := (Wp_of m c main_arg4 (by decide)).trans (V_main_arg4 m c)

/-- The codes at a row of the matrix. -/
theorem codes_at (b : Fin 2) (s : Fin 2048) (d : Fin 4608) :
    Wp m c (Proc.devRef .tc main_v65_0) (ix2 ⟨b.val * 2048 + s.val, by omega⟩ d) = Spec.code (rowX m c b s) (gains m c) d :=
  (congrFun (Wp_codes m c) _).trans ((pay1_at _ _ _).trans
    ((congrFun (V_clipped m c) _).trans (refClipped_at _ _ b s d)))

/-- The inner products at a row of the matrix. -/
theorem acc_at (b : Fin 2) (s : Fin 2048) (j : Fin 8192) :
    Wp m c (Proc.devRef .tc main_v65_1) (ix2 ⟨b.val * 2048 + s.val, by omega⟩ j)
      = ∑ d : Fin 4608, Spec.code (rowX m c b s) (gains m c) d * argW m c (ix2 d j) := by
  refine (congrFun (Wp_acc m c) _).trans ((pay2_at _ _ _ _).trans (Finset.sum_congr rfl fun d _ => ?_))
  exact congrArg₂ (· * ·) ((congrFun (V_clipped m c) _).trans (refClipped_at _ _ b s d)) (congrFun (V_main_arg2 m c) _)

theorem scale_at (b : Fin 2) (s : Fin 2048) :
    Wp m c (Proc.devRef .tc main_v50) (ix3 b s 0) = Spec.scale (rowX m c b s) (gains m c) :=
  (congrFun (Wp_scale m c) _).trans (refScale_at _ _ b s)

/-- The projection of a token's row at column `j` of the weights. -/
abbrev projAt (b : Fin 2) (s : Fin 2048) (j : Fin 8192) : EReal :=
  Spec.proj (rowX m c b s) (gains m c) (fun d => argW m c (ix2 d j)) (argS m c (ix1 j))

/-- The rescaled projections. -/
abbrev qkv : FVec Ideal S2x2048x8192 .f32 :=
  refQkv (Wp m c (Proc.devRef .tc main_v65_1)) (Wp m c (Proc.devRef .tc main_v50)) (Wp m c (Proc.devRef .tc main_arg3))

theorem qkv_at (b : Fin 2) (s : Fin 2048) (j : Fin 8192) : qkv m c (ix3 b s j) = projAt m c b s j :=
  (refQkv_at _ _ _ b s j).trans
    (congrArg₂ (· * ·) (congrArg₂ (· * ·) (acc_at m c b s j) (scale_at m c b s)) (congrFun (Wp_ws m c) _))

/-! ## The results -/

/-- The queries. -/
theorem res_q (b : Fin 2) (s : Fin 2048) (h : Fin 32) (l : Fin 128) :
    StableHlo.after hostOps1 (Wp m c) (Proc.devRef .tc main_v112) (ix4 b s h l)
      = Spec.rope (fun k => projAt m c b s ⟨h.val * 128 + k.val, by omega⟩) (argP m c (ix2 b s)) l := by
  refine (congrFun (after_q (Wp m c)) _).trans ((refQ_at _ _ b s h l).trans ?_)
  exact congrArg₂ (fun t p => Spec.rope t p l) (funext fun k => qkv_at m c b s _) (congrFun (Wp_pos m c) _)

/-- The keys. -/
theorem res_k (b : Fin 2) (s : Fin 2048) (h : Fin 16) (l : Fin 128) :
    StableHlo.after hostOps1 (Wp m c) (Proc.devRef .tc main_v126) (ix4 b s h l)
      = Spec.rope (fun k => projAt m c b s ⟨4096 + (h.val * 128 + k.val), by omega⟩) (argP m c (ix2 b s)) l := by
  refine (congrFun (after_k (Wp m c)) _).trans ((refK_at _ _ b s h l).trans ?_)
  exact congrArg₂ (fun t p => Spec.rope t p l) (funext fun k => qkv_at m c b s _) (congrFun (Wp_pos m c) _)

/-- The values. -/
theorem res_v (b : Fin 2) (s : Fin 2048) (h : Fin 16) (l : Fin 128) :
    StableHlo.after hostOps1 (Wp m c) (Proc.devRef .tc main_v127) (ix4 b s h l)
      = projAt m c b s ⟨6144 + (h.val * 128 + l.val), by omega⟩ :=
  (congrFun (after_v (Wp m c)) _).trans ((refV_at _ b s h l).trans (qkv_at m c b s _))

/-- The matrix of codes as batches of tokens. -/
theorem split_at (x : FVec Ideal S4096x4608 .fp8e4m3) (b : Fin 2) (s : Fin 2048) (d : Fin 4608) :
    shapeCast S2x2048x4608 x shapeCasts_S4096x4608_S2x2048x4608 (ix3 b s d)
      = x (ix2 ⟨b.val * 2048 + s.val, by omega⟩ d) := by
  pointwise []

/-- The codes and the scales. -/
theorem res_codes (b : Fin 2) (s : Fin 2048) (d : Fin 4608) :
    StableHlo.after hostOps1 (Wp m c) (Proc.devRef .tc main_v128) (ix3 b s d) = Spec.code (rowX m c b s) (gains m c) d :=
  (congrFun (after_codes (Wp m c)) _).trans ((split_at _ b s d).trans (codes_at m c b s d))
theorem res_scale (b : Fin 2) (s : Fin 2048) :
    StableHlo.after hostOps1 (Wp m c) (Proc.devRef .tc main_v50) (ix3 b s 0) = Spec.scale (rowX m c b s) (gains m c) :=
  (congrFun (after_scale (Wp m c)) _).trans (scale_at m c b s)

/-! ## The run -/

/-- The whole run: the five results as the operations after the projection leave them, the arguments unchanged. -/
theorem run : θ_run defs (onTc (τ := τ) (main (F := Ideal))) ⟨m, fun _ => 0, ρ⟩ (fun r => ∀ c : Dev nD,
      r.2.mem ((c.tc : Thread nD τ).loc main_v112) = StableHlo.after hostOps1 (Wp m c) (Proc.devRef .tc main_v112)
      ∧ r.2.mem ((c.tc : Thread nD τ).loc main_v126) = StableHlo.after hostOps1 (Wp m c) (Proc.devRef .tc main_v126)
      ∧ r.2.mem ((c.tc : Thread nD τ).loc main_v127) = StableHlo.after hostOps1 (Wp m c) (Proc.devRef .tc main_v127)
      ∧ r.2.mem ((c.tc : Thread nD τ).loc main_v128) = StableHlo.after hostOps1 (Wp m c) (Proc.devRef .tc main_v128)
      ∧ r.2.mem ((c.tc : Thread nD τ).loc main_v50) = StableHlo.after hostOps1 (Wp m c) (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have e : ∀ (c : Dev nD) (b : Ref sig .tc), Pipeline.afterTail₀ cfgs (dats m) 0 (V0 m) [hostOps1] c b
      = StableHlo.after hostOps1 (Wp m c) (Proc.devRef .tc b) := fun c b => by
    unfold Pipeline.afterTail₀
    rw [List.flatten_cons, List.flatten_nil, List.append_nil]
  exact (θ_run defs _ _).mono (fun r h c =>
    ⟨((h.1 c).2 main_v112 (Pipeline.mem_restRefs_of main_v112 (by decide) (by decide))).trans (e c _),
     ((h.1 c).2 main_v126 (Pipeline.mem_restRefs_of main_v126 (by decide) (by decide))).trans (e c _),
     ((h.1 c).2 main_v127 (Pipeline.mem_restRefs_of main_v127 (by decide) (by decide))).trans (e c _),
     ((h.1 c).2 main_v128 (Pipeline.mem_restRefs_of main_v128 (by decide) (by decide))).trans (e c _),
     ((h.1 c).2 main_v50 (Pipeline.mem_restRefs_of main_v50 (by decide) (by decide))).trans (e c _),
     h.2 c⟩) (θ_run_and (run_main m ρ) (unchanged m ρ))

end Cert.ReferenceIdeal.Own

end
-- ==== Proof.Algebraic.lean ====
/- The value claim: from the same arguments the kernel and the reference end with the same five results. Both are,
   at every index, the shared functions of Spec.lean, so equal arguments give equal results. -/
module

public import proofs.«01_k».proof.Defs
public import proofs.«01_k».proof.Proof.KernelValue
public import proofs.«01_k».proof.Proof.RefValue

@[expose] public section

set_option maxRecDepth 16384
set_option backward.isDefEq.respectTransparency false

noncomputable section

namespace Cert.Proof

open Idealize.ShloMosaic Idealize.ShloMosaic.TcCoe Idealize.SL.Sem

/-! ## The kernel's run -/

/-- The whole run: the five results as the last host operations leave them, the arguments unchanged. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩
      (fun r => ∀ c : Dev KernelIdeal.nD,
        r.2.mem ((c.tc : Thread KernelIdeal.nD KernelIdeal.τ).loc KernelIdeal.main_v19) = KernelIdeal.Own.W5 m ρ c (Proc.devRef .tc KernelIdeal.main_v19)
        ∧ r.2.mem ((c.tc : Thread KernelIdeal.nD KernelIdeal.τ).loc KernelIdeal.main_v20) = KernelIdeal.Own.W5 m ρ c (Proc.devRef .tc KernelIdeal.main_v20)
        ∧ r.2.mem ((c.tc : Thread KernelIdeal.nD KernelIdeal.τ).loc KernelIdeal.main_v21) = KernelIdeal.Own.W5 m ρ c (Proc.devRef .tc KernelIdeal.main_v21)
        ∧ r.2.mem ((c.tc : Thread KernelIdeal.nD KernelIdeal.τ).loc KernelIdeal.main_v22) = KernelIdeal.Own.W5 m ρ c (Proc.devRef .tc KernelIdeal.main_v22)
        ∧ r.2.mem ((c.tc : Thread KernelIdeal.nD KernelIdeal.τ).loc KernelIdeal.main_v23) = KernelIdeal.Own.W5 m ρ c (Proc.devRef .tc KernelIdeal.main_v23)
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)) :=
  (θ_run (KernelIdeal.defs (F := Ideal)) _ _).mono (fun r h c =>
    ⟨KernelIdeal.Own.run_read m ρ h.1.1 c _ (by decide), KernelIdeal.Own.run_read m ρ h.1.1 c _ (by decide),
     KernelIdeal.Own.run_read m ρ h.1.1 c _ (by decide), KernelIdeal.Own.run_read m ρ h.1.1 c _ (by decide),
     KernelIdeal.Own.run_read m ρ h.1.1 c _ (by decide), h.2.1 c⟩)
    (θ_run_and (KernelIdeal.Own.run (F := Ideal) m ρ) (KernelIdeal.Own.frame (F := Ideal) m ρ))

/-! ## The two programs' results -/

section Same

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)
variable (c : Dev KernelIdeal.nD)

/-- The two programs have the same arguments at a core. -/
structure Agree : Prop where
  x : ReferenceIdeal.Own.argX m' c = KernelIdeal.Own.argX m c
  g : ReferenceIdeal.Own.argG m' c = KernelIdeal.Own.argG m c
  w : ReferenceIdeal.Own.argW m' c = KernelIdeal.Own.argW m c
  s : ReferenceIdeal.Own.argS m' c = KernelIdeal.Own.argS m c
  p : ReferenceIdeal.Own.argP m' c = KernelIdeal.Own.argP m c

variable {m m' c} (e : Agree m m' c)
include e

theorem same_rowX (b : Fin 2) (s : Fin 2048) : ReferenceIdeal.Own.rowX m' c b s = KernelIdeal.Own.rowX m c b s :=
  funext fun k => congrFun e.x _
theorem same_gains : ReferenceIdeal.Own.gains m' c = KernelIdeal.Own.gains m c := funext fun k => congrFun e.g _
theorem same_projAt (b : Fin 2) (s : Fin 2048) (j : Fin 8192) :
    ReferenceIdeal.Own.projAt m' c b s j = KernelIdeal.Own.projAt m c b s j :=
  have h : ∀ {x x' g g' w w' : Fin 4608 → EReal} {t t' : EReal}, x = x' → g = g' → w = w' → t = t' →
      Spec.proj x g w t = Spec.proj x' g' w' t' := fun hx hg hw ht => by rw [hx, hg, hw, ht]
  h (same_rowX e b s) (same_gains e) (funext fun d => congrFun e.w _) (congrFun e.s _)

/-- The queries. -/
theorem same_q : StableHlo.after ReferenceIdeal.Gen.hostOps1 (ReferenceIdeal.Own.Wp m' c) (Proc.devRef .tc ReferenceIdeal.main_v112)
    = KernelIdeal.Own.W5 m ρ c (Proc.devRef .tc KernelIdeal.main_v19) := by
  refine funext fun i : KernelIdeal.S2x2048x32x128.Idx => ?_
  obtain ⟨b, s, h, l, rfl⟩ : ∃ b s h l, i = ix4 b s h l := ⟨_, _, _, _, eq_ix4 i⟩
  refine (ReferenceIdeal.Own.res_q m' c b s h l).trans (Eq.trans ?_ (KernelIdeal.Own.res_q m ρ c b s h l).symm)
  exact congrArg₂ (fun t p => Spec.rope t p l) (funext fun k => same_projAt e b s _) (congrFun e.p _)

/-- The keys. -/
theorem same_k : StableHlo.after ReferenceIdeal.Gen.hostOps1 (ReferenceIdeal.Own.Wp m' c) (Proc.devRef .tc ReferenceIdeal.main_v126)
    = KernelIdeal.Own.W5 m ρ c (Proc.devRef .tc KernelIdeal.main_v20) := by
  refine funext fun i : KernelIdeal.S2x2048x16x128.Idx => ?_
  obtain ⟨b, s, h, l, rfl⟩ : ∃ b s h l, i = ix4 b s h l := ⟨_, _, _, _, eq_ix4 i⟩
  refine (ReferenceIdeal.Own.res_k m' c b s h l).trans (Eq.trans ?_ (KernelIdeal.Own.res_k m ρ c b s h l).symm)
  exact congrArg₂ (fun t p => Spec.rope t p l) (funext fun k => same_projAt e b s _) (congrFun e.p _)

/-- The values. -/
theorem same_v : StableHlo.after ReferenceIdeal.Gen.hostOps1 (ReferenceIdeal.Own.Wp m' c) (Proc.devRef .tc ReferenceIdeal.main_v127)
    = KernelIdeal.Own.W5 m ρ c (Proc.devRef .tc KernelIdeal.main_v21) := by
  refine funext fun i : KernelIdeal.S2x2048x16x128.Idx => ?_
  obtain ⟨b, s, h, l, rfl⟩ : ∃ b s h l, i = ix4 b s h l := ⟨_, _, _, _, eq_ix4 i⟩
  exact (ReferenceIdeal.Own.res_v m' c b s h l).trans ((same_projAt e b s _).trans (KernelIdeal.Own.res_v m ρ c b s h l).symm)

/-- The codes. -/
theorem same_codes : StableHlo.after ReferenceIdeal.Gen.hostOps1 (ReferenceIdeal.Own.Wp m' c) (Proc.devRef .tc ReferenceIdeal.main_v128)
    = KernelIdeal.Own.W5 m ρ c (Proc.devRef .tc KernelIdeal.main_v22) := by
  refine funext fun i : KernelIdeal.S2x2048x4608.Idx => ?_
  obtain ⟨b, s, d, rfl⟩ : ∃ b s d, i = ix3 b s d := ⟨_, _, _, eq_ix3 i⟩
  refine (ReferenceIdeal.Own.res_codes m' c b s d).trans (Eq.trans ?_ (KernelIdeal.Own.res_codes m ρ c b s d).symm)
  exact congrArg₂ (fun x g => Spec.code x g d) (same_rowX e b s) (same_gains e)

/-- The scales. -/
theorem same_scale : StableHlo.after ReferenceIdeal.Gen.hostOps1 (ReferenceIdeal.Own.Wp m' c) (Proc.devRef .tc ReferenceIdeal.main_v50)
    = KernelIdeal.Own.W5 m ρ c (Proc.devRef .tc KernelIdeal.main_v23) := by
  refine funext fun i : KernelIdeal.S2x2048x1.Idx => ?_
  obtain ⟨b, s, rfl⟩ : ∃ b s, i = ix3 b s 0 :=
    ⟨_, _, (eq_ix3 i).trans (congrArg (ix3 (i 0) (i 1)) (Subsingleton.elim (α := Fin 1) _ _))⟩
  refine (ReferenceIdeal.Own.res_scale m' c b s).trans (Eq.trans ?_ (KernelIdeal.Own.res_scale m ρ c b s).symm)
  exact congrArg₂ Spec.scale (same_rowX e b s) (same_gains e)

end Same

/-- The value claim. -/
theorem algebraic : algebraic_KernelIdeal_ReferenceIdeal (hKernelIdeal := Cert.KernelIdeal.Gen.facts)
    (hReferenceIdeal := Cert.ReferenceIdeal.Gen.facts) := by
  intro m g m' g' _ hagree
  have e : ∀ c, Agree m m' c := fun c =>
    ⟨(hagree c).1, (hagree c).2.1, (hagree c).2.2.1, (hagree c).2.2.2.1, (hagree c).2.2.2.2⟩
  refine ⟨_, _, _, _, _, kernel_run m g, (θ_run _ _ _).mono (fun r h c => ?_) (ReferenceIdeal.Own.run m' g')⟩
  exact ⟨(h c).1.trans (same_q g (e c)), (h c).2.1.trans (same_k g (e c)), (h c).2.2.1.trans (same_v g (e c)),
    (h c).2.2.2.1.trans (same_codes g (e c)), (h c).2.2.2.2.1.trans (same_scale g (e c)), (h c).2.2.2.2.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
